-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2048x16384 : Shape := ⟨2, ![2048, 16384]⟩
abbrev S16384x5120 : Shape := ⟨2, ![16384, 5120]⟩
abbrev S2x1024x128 : Shape := ⟨3, ![2, 1024, 128]⟩
abbrev S2x4x144x256 : Shape := ⟨4, ![2, 4, 144, 256]⟩
abbrev S32x288x512 : Shape := ⟨3, ![32, 288, 512]⟩
abbrev S128x288x128 : Shape := ⟨3, ![128, 288, 128]⟩
abbrev S64x16384 : Shape := ⟨2, ![64, 16384]⟩
abbrev S2x1x1024 : Shape := ⟨3, ![2, 1, 1024]⟩
abbrev S2x16x1024 : Shape := ⟨3, ![2, 16, 1024]⟩
abbrev S512x128 : Shape := ⟨2, ![512, 128]⟩
abbrev S640x128 : Shape := ⟨2, ![640, 128]⟩
abbrev S256x128 : Shape := ⟨2, ![256, 128]⟩
abbrev S16384x2048 : Shape := ⟨2, ![16384, 2048]⟩
abbrev S1024x128 : Shape := ⟨2, ![1024, 128]⟩
abbrev S1x1024x128 : Shape := ⟨3, ![1, 1024, 128]⟩
abbrev S1x4x144x256 : Shape := ⟨4, ![1, 4, 144, 256]⟩
abbrev S16384x128 : Shape := ⟨2, ![16384, 128]⟩
abbrev S32x144x512 : Shape := ⟨3, ![32, 144, 512]⟩
abbrev S128x144x128 : Shape := ⟨3, ![128, 144, 128]⟩
abbrev S64x128 : Shape := ⟨2, ![64, 128]⟩
abbrev S1x1x1024 : Shape := ⟨3, ![1, 1, 1024]⟩
abbrev S1x16x1024 : Shape := ⟨3, ![1, 16, 1024]⟩
abbrev S128x1024 : Shape := ⟨2, ![128, 1024]⟩
abbrev S256x1024 : Shape := ⟨2, ![256, 1024]⟩
abbrev S512x256 : Shape := ⟨2, ![512, 256]⟩
abbrev S640x256 : Shape := ⟨2, ![640, 256]⟩
abbrev S256x256 : Shape := ⟨2, ![256, 256]⟩
abbrev S1x1024 : Shape := ⟨2, ![1, 1024]⟩
abbrev S144x1024 : Shape := ⟨2, ![144, 1024]⟩
abbrev S512x1024 : Shape := ⟨2, ![512, 1024]⟩
abbrev S640x1024 : Shape := ⟨2, ![640, 1024]⟩
abbrev S1024x1024 : Shape := ⟨2, ![1024, 1024]⟩
abbrev S1032x128 : Shape := ⟨2, ![1032, 128]⟩
abbrev S32 : Shape := ⟨1, ![32]⟩
abbrev S1x128 : Shape := ⟨2, ![1, 128]⟩
abbrev S128x128 : Shape := ⟨2, ![128, 128]⟩
abbrev S16x1024 : Shape := ⟨2, ![16, 1024]⟩
abbrev S112x1024 : Shape := ⟨2, ![112, 1024]⟩
abbrev S1x256x128 : Shape := ⟨3, ![1, 256, 128]⟩
abbrev S128 : Shape := ⟨1, ![128]⟩
abbrev S144x256 : Shape := ⟨2, ![144, 256]⟩
abbrev S1x1x144x256 : Shape := ⟨4, ![1, 1, 144, 256]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S8x1024 : Shape := ⟨2, ![8, 1024]⟩
abbrev S1x144x512 : Shape := ⟨3, ![1, 144, 512]⟩
abbrev S144x512 : Shape := ⟨2, ![144, 512]⟩
abbrev S128x256 : Shape := ⟨2, ![128, 256]⟩
abbrev S1x144x128 : Shape := ⟨3, ![1, 144, 128]⟩
abbrev S144x128 : Shape := ⟨2, ![144, 128]⟩
abbrev S144x640 : Shape := ⟨2, ![144, 640]⟩

abbrev nBuf : Space → Nat
  | .hbm => 13
  | .vmem => 36
  | .smem => 1
  | _ => 0

abbrev bufTy : (tb : Table) → Fin (tcTables nBuf tb) → BufTy
  | .hbm, ⟨0, _⟩ => ⟨S2048x16384, .bf16⟩
  | .hbm, ⟨1, _⟩ => ⟨S16384x5120, .bf16⟩
  | .hbm, ⟨2, _⟩ => ⟨S2x1024x128, .bf16⟩
  | .hbm, ⟨3, _⟩ => ⟨S2x4x144x256, .bf16⟩
  | .hbm, ⟨4, _⟩ => ⟨S32x288x512, .bf16⟩
  | .hbm, ⟨5, _⟩ => ⟨S128x288x128, .bf16⟩
  | .hbm, ⟨6, _⟩ => ⟨S64x16384, .f32⟩
  | .hbm, ⟨7, _⟩ => ⟨S2x1x1024, .f32⟩
  | .hbm, ⟨8, _⟩ => ⟨S2x16x1024, .bf16⟩
  | .hbm, ⟨9, _⟩ => ⟨S512x128, .bf16⟩
  | .hbm, ⟨10, _⟩ => ⟨S640x128, .bf16⟩
  | .hbm, ⟨11, _⟩ => ⟨S256x128, .bf16⟩
  | .hbm, ⟨12, _⟩ => ⟨S16384x2048, .bf16⟩
  | .local _ .vmem, ⟨0, _⟩ => ⟨S1024x128, .bf16⟩
  | .local _ .vmem, ⟨1, _⟩ => ⟨S1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x4x144x256, .bf16⟩
  | .local _ .vmem, ⟨5, _⟩ => ⟨S1x4x144x256, .bf16⟩
  | .local _ .vmem, ⟨6, _⟩ => ⟨S16384x128, .bf16⟩
  | .local _ .vmem, ⟨7, _⟩ => ⟨S32x144x512, .bf16⟩
  | .local _ .vmem, ⟨8, _⟩ => ⟨S16384x128, .bf16⟩
  | .local _ .vmem, ⟨9, _⟩ => ⟨S128x144x128, .bf16⟩
  | .local _ .vmem, ⟨10, _⟩ => ⟨S64x128, .f32⟩
  | .local _ .vmem, ⟨11, _⟩ => ⟨S64x128, .f32⟩
  | .local _ .vmem, ⟨12, _⟩ => ⟨S1x1x1024, .f32⟩
  | .local _ .vmem, ⟨13, _⟩ => ⟨S1x1x1024, .f32⟩
  | .local _ .vmem, ⟨14, _⟩ => ⟨S1x16x1024, .bf16⟩
  | .local _ .vmem, ⟨15, _⟩ => ⟨S1x16x1024, .bf16⟩
  | .local _ .vmem, ⟨16, _⟩ => ⟨S512x128, .bf16⟩
  | .local _ .vmem, ⟨17, _⟩ => ⟨S640x128, .bf16⟩
  | .local _ .vmem, ⟨18, _⟩ => ⟨S256x128, .bf16⟩
  | .local _ .vmem, ⟨19, _⟩ => ⟨S128x1024, .bf16⟩
  | .local _ .vmem, ⟨20, _⟩ => ⟨S128x1024, .bf16⟩
  | .local _ .vmem, ⟨21, _⟩ => ⟨S256x1024, .bf16⟩
  | .local _ .vmem, ⟨22, _⟩ => ⟨S512x256, .bf16⟩
  | .local _ .vmem, ⟨23, _⟩ => ⟨S640x256, .bf16⟩
  | .local _ .vmem, ⟨24, _⟩ => ⟨S256x256, .bf16⟩
  | .local _ .vmem, ⟨25, _⟩ => ⟨S1x1024, .f32⟩
  | .local _ .vmem, ⟨26, _⟩ => ⟨S144x1024, .f32⟩
  | .local _ .vmem, ⟨27, _⟩ => ⟨S512x1024, .bf16⟩
  | .local _ .vmem, ⟨28, _⟩ => ⟨S1x1024, .f32⟩
  | .local _ .vmem, ⟨29, _⟩ => ⟨S144x1024, .f32⟩
  | .local _ .vmem, ⟨30, _⟩ => ⟨S640x1024, .bf16⟩
  | .local _ .vmem, ⟨31, _⟩ => ⟨S128x1024, .f32⟩
  | .local _ .vmem, ⟨32, _⟩ => ⟨S1024x1024, .f32⟩
  | .local _ .vmem, ⟨33, _⟩ => ⟨S1032x128, .f32⟩
  | .local _ .vmem, ⟨34, _⟩ => ⟨S256x128, .f32⟩
  | .local _ .vmem, ⟨35, _⟩ => ⟨S256x128, .f32⟩
  | .local _ .smem, ⟨0, _⟩ => ⟨S32, .i32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_scratch14 : Ref sig .tc := ⟨.vmem, 35, rfl⟩
abbrev cc0_scratch15 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 128], ![false, false]⟩

@[reducible] def k0_t1_loop (i : grid0.Coords) : Scf.Loop 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_68 : BitVec 32 := 1#32
  ⟨c0_i32_66, v112, c1_i32_68⟩
def k0_mult1 (i : grid0.Coords) (k0_t1 : Fin (k0_t1_loop i).trips) : BitVec 32 :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  v2166
def k0_off1 (i : grid0.Coords) (k0_t1 : Fin (k0_t1_loop i).trips) : Fin 3 → Nat :=
  let c0_1130 : Index := 0#32
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2185 : Index := Scalar.indexCast v2167
  let c0_1131 : Index := 0#32
  ![0, v2185.toNat, 0]
def k0_off2 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2200 : Index := Scalar.indexCast v2167
  let c0_1140 : Index := 0#32
  ![v2200.toNat, 0]
def k0_off3 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2217 : Index := Scalar.indexCast v2167
  let c128_1147 : Index := 128#32
  ![v2217.toNat, 128]
def k0_off4 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2237 : Index := Scalar.indexCast v2167
  let c256_1159 : Index := 256#32
  ![v2237.toNat, 256]
def k0_off5 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2254 : Index := Scalar.indexCast v2167
  let c384_1166 : Index := 384#32
  ![v2254.toNat, 384]
def k0_off6 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2274 : Index := Scalar.indexCast v2167
  let c512_1178 : Index := 512#32
  ![v2274.toNat, 512]
def k0_off7 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2291 : Index := Scalar.indexCast v2167
  let c640_1185 : Index := 640#32
  ![v2291.toNat, 640]
def k0_off8 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2311 : Index := Scalar.indexCast v2167
  let c768_1197 : Index := 768#32
  ![v2311.toNat, 768]
def k0_off9 (i : grid0.Coords) (k0_t1 : Fin (k0_t1_loop i).trips) : Fin 2 → Nat :=
  let c0_i32_66 : BitVec 32 := 0#32
  let c1_i32_68 : BitVec 32 := 1#32
  let arg32 : BitVec 32 := Scf.iv c0_i32_66 c1_i32_68 k0_t1
  let c256_i32_1123 : BitVec 32 := 256#32
  let v2166 : BitVec 32 := Scalar.muli arg32 c256_i32_1123
  let v2167 : BitVec 32 := v2166
  let v2328 : Index := Scalar.indexCast v2167
  let c896_1204 : Index := 896#32
  ![v2328.toNat, 896]
@[reducible] def k0_t2_loop (i : grid0.Coords) : Scf.Loop 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let v109 : BitVec 32 := Scalar.addi c0_i32_66 v108
  let c1_i32_69 : BitVec 32 := 1#32
  ⟨v112, v109, c1_i32_69⟩
def k0_mult2 (i : grid0.Coords) (k0_t2 : Fin (k0_t2_loop i).trips) : BitVec 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  v2166
def k0_off10 (i : grid0.Coords) (k0_t2 : Fin (k0_t2_loop i).trips) : Fin 3 → Nat :=
  let c0_1130 : Index := 0#32
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2185 : Index := Scalar.indexCast v2167
  let c0_1131 : Index := 0#32
  ![0, v2185.toNat, 0]
def k0_off11 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2200 : Index := Scalar.indexCast v2167
  let c0_1140 : Index := 0#32
  ![v2200.toNat, 0]
def k0_off12 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2217 : Index := Scalar.indexCast v2167
  let c128_1147 : Index := 128#32
  ![v2217.toNat, 128]
def k0_off13 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2237 : Index := Scalar.indexCast v2167
  let c256_1159 : Index := 256#32
  ![v2237.toNat, 256]
def k0_off14 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2254 : Index := Scalar.indexCast v2167
  let c384_1166 : Index := 384#32
  ![v2254.toNat, 384]
def k0_off15 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2274 : Index := Scalar.indexCast v2167
  let c512_1178 : Index := 512#32
  ![v2274.toNat, 512]
def k0_off16 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2291 : Index := Scalar.indexCast v2167
  let c640_1185 : Index := 640#32
  ![v2291.toNat, 640]
def k0_off17 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2311 : Index := Scalar.indexCast v2167
  let c768_1197 : Index := 768#32
  ![v2311.toNat, 768]
def k0_off18 (i : grid0.Coords) (k0_t2 : Fin (k0_t2_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v108 : BitVec 32 := Scalar.subi v107 c0_i32_66
  let c1_i32_67 : BitVec 32 := 1#32
  let v110 : BitVec 32 := Scalar.divsi v108 c1_i32_67
  let v111 : BitVec 32 := Scalar.muli v110 c1_i32_67
  let v112 : BitVec 32 := Scalar.addi c0_i32_66 v111
  let c1_i32_69 : BitVec 32 := 1#32
  let arg32 : BitVec 32 := Scf.iv v112 c1_i32_69 k0_t2
  let c256_i32_1123 : BitVec 32 := 256#32
  let v2166 : BitVec 32 := Scalar.muli arg32 c256_i32_1123
  let v2167 : BitVec 32 := v2166
  let v2328 : Index := Scalar.indexCast v2167
  let c896_1204 : Index := 896#32
  ![v2328.toNat, 896]
@[reducible] def k0_t3_loop (i : grid0.Coords) : Scf.Loop 32 :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_73 : BitVec 32 := 1#32
  ⟨c0_i32_71, v117, c1_i32_73⟩
def k0_mult3 (i : grid0.Coords) (k0_t3 : Fin (k0_t3_loop i).trips) : BitVec 32 :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  v2166
def k0_off19 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2168 : Index := Scalar.indexCast v2167
  let c0_1124 : Index := 0#32
  ![v2168.toNat, 0]
def k0_off20 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2182 : Index := Scalar.indexCast v2167
  let c128_1130 : Index := 128#32
  ![v2182.toNat, 128]
def k0_off21 (i : grid0.Coords) (k0_t3 : Fin (k0_t3_loop i).trips) : Fin 4 → Nat :=
  let c0_1138 : Index := 0#32
  let c0_i32_71 : BitVec 32 := 0#32
  let c1_i32_73 : BitVec 32 := 1#32
  let arg32 : BitVec 32 := Scf.iv c0_i32_71 c1_i32_73 k0_t3
  let v2197 : Index := Scalar.indexCast arg32
  let c0_1139 : Index := 0#32
  let c0_1140 : Index := 0#32
  ![0, v2197.toNat, 0, 0]
def k0_off22 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2206 : Index := Scalar.indexCast v2167
  let c256_1146 : Index := 256#32
  ![v2206.toNat, 256]
def k0_off23 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2220 : Index := Scalar.indexCast v2167
  let c384_1152 : Index := 384#32
  ![v2220.toNat, 384]
def k0_off24 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2244 : Index := Scalar.indexCast v2167
  let c512_1168 : Index := 512#32
  ![v2244.toNat, 512]
def k0_off25 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2258 : Index := Scalar.indexCast v2167
  let c640_1174 : Index := 640#32
  ![v2258.toNat, 640]
def k0_off26 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2282 : Index := Scalar.indexCast v2167
  let c768_1190 : Index := 768#32
  ![v2282.toNat, 768]
def k0_off27 (i : grid0.Coords) (k0_t3 : Fin (k0_t3_loop i).trips) : Fin 2 → Nat :=
  let c0_i32_71 : BitVec 32 := 0#32
  let c1_i32_73 : BitVec 32 := 1#32
  let arg32 : BitVec 32 := Scf.iv c0_i32_71 c1_i32_73 k0_t3
  let c256_i32_1123 : BitVec 32 := 256#32
  let v2166 : BitVec 32 := Scalar.muli arg32 c256_i32_1123
  let v2167 : BitVec 32 := v2166
  let v2296 : Index := Scalar.indexCast v2167
  let c896_1196 : Index := 896#32
  ![v2296.toNat, 896]
@[reducible] def k0_t4_loop (i : grid0.Coords) : Scf.Loop 32 :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let v114 : BitVec 32 := Scalar.addi c0_i32_71 v113
  let c1_i32_74 : BitVec 32 := 1#32
  ⟨v117, v114, c1_i32_74⟩
def k0_mult4 (i : grid0.Coords) (k0_t4 : Fin (k0_t4_loop i).trips) : BitVec 32 :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  v2166
def k0_off28 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2168 : Index := Scalar.indexCast v2167
  let c0_1124 : Index := 0#32
  ![v2168.toNat, 0]
def k0_off29 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2182 : Index := Scalar.indexCast v2167
  let c128_1130 : Index := 128#32
  ![v2182.toNat, 128]
def k0_off30 (i : grid0.Coords) (k0_t4 : Fin (k0_t4_loop i).trips) : Fin 4 → Nat :=
  let c0_1138 : Index := 0#32
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let v2197 : Index := Scalar.indexCast arg32
  let c0_1139 : Index := 0#32
  let c0_1140 : Index := 0#32
  ![0, v2197.toNat, 0, 0]
def k0_off31 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2206 : Index := Scalar.indexCast v2167
  let c256_1146 : Index := 256#32
  ![v2206.toNat, 256]
def k0_off32 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2220 : Index := Scalar.indexCast v2167
  let c384_1152 : Index := 384#32
  ![v2220.toNat, 384]
def k0_off33 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2244 : Index := Scalar.indexCast v2167
  let c512_1168 : Index := 512#32
  ![v2244.toNat, 512]
def k0_off34 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2258 : Index := Scalar.indexCast v2167
  let c640_1174 : Index := 640#32
  ![v2258.toNat, 640]
def k0_off35 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2282 : Index := Scalar.indexCast v2167
  let c768_1190 : Index := 768#32
  ![v2282.toNat, 768]
def k0_off36 (i : grid0.Coords) (k0_t4 : Fin (k0_t4_loop i).trips) : Fin 2 → Nat :=
  let c0_i32_71 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v113 : BitVec 32 := Scalar.subi v107 c0_i32_71
  let c1_i32_72 : BitVec 32 := 1#32
  let v115 : BitVec 32 := Scalar.divsi v113 c1_i32_72
  let v116 : BitVec 32 := Scalar.muli v115 c1_i32_72
  let v117 : BitVec 32 := Scalar.addi c0_i32_71 v116
  let c1_i32_74 : BitVec 32 := 1#32
  let arg32 : BitVec 32 := Scf.iv v117 c1_i32_74 k0_t4
  let c256_i32_1123 : BitVec 32 := 256#32
  let v2166 : BitVec 32 := Scalar.muli arg32 c256_i32_1123
  let v2167 : BitVec 32 := v2166
  let v2296 : Index := Scalar.indexCast v2167
  let c896_1196 : Index := 896#32
  ![v2296.toNat, 896]
def k0_off37 (i : grid0.Coords) (c0_i32_75 : BitVec 32) (c0_i32_76 : BitVec 32) : Fin 2 → Nat :=
  let arg0 : BitVec 32 := BitVec.ofNat 32 (i 0).val
  let c8_i32 : BitVec 32 := 8#32
  let v118 : BitVec 32 := Scalar.muli arg0 c8_i32
  let v119 : BitVec 32 := Scalar.addi c0_i32_75 v118
  let v120 : BitVec 32 := Scalar.addi v119 c0_i32_76
  let v121 : Index := Scalar.indexCast v120
  let c0_77 : Index := 0#32
  ![v121.toNat, 0]
@[reducible] def k0_t5_loop (i : grid0.Coords) : Scf.Loop 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_199 : BitVec 32 := 1#32
  ⟨c0_i32_197, v298, c1_i32_199⟩
def k0_mult5 (i : grid0.Coords) (k0_t5 : Fin (k0_t5_loop i).trips) : BitVec 32 :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  v2166
def k0_off38 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2169 : Index := Scalar.indexCast v2167
  let c0_1125 : Index := 0#32
  ![v2169.toNat, 0]
def k0_off39 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2184 : Index := Scalar.indexCast v2167
  let c128_1134 : Index := 128#32
  ![v2184.toNat, 128]
def k0_off40 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2199 : Index := Scalar.indexCast v2167
  let c256_1143 : Index := 256#32
  ![v2199.toNat, 256]
def k0_off41 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2214 : Index := Scalar.indexCast v2167
  let c384_1152 : Index := 384#32
  ![v2214.toNat, 384]
def k0_off42 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2229 : Index := Scalar.indexCast v2167
  let c512_1161 : Index := 512#32
  ![v2229.toNat, 512]
def k0_off43 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2244 : Index := Scalar.indexCast v2167
  let c640_1170 : Index := 640#32
  ![v2244.toNat, 640]
def k0_off44 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2259 : Index := Scalar.indexCast v2167
  let c768_1179 : Index := 768#32
  ![v2259.toNat, 768]
def k0_off45 (i : grid0.Coords) (k0_t5 : Fin (k0_t5_loop i).trips) : Fin 2 → Nat :=
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2274 : Index := Scalar.indexCast v2167
  let c896_1188 : Index := 896#32
  ![v2274.toNat, 896]
def k0_off46 (i : grid0.Coords) (k0_t5 : Fin (k0_t5_loop i).trips) : Fin 2 → Nat :=
  let c8_i32_1197 : BitVec 32 := 8#32
  let c0_i32_197 : BitVec 32 := 0#32
  let c1_i32_199 : BitVec 32 := 1#32
  let arg32 : BitVec 32 := Scf.iv c0_i32_197 c1_i32_199 k0_t5
  let c256_i32_1123 : BitVec 32 := 256#32
  let v2166 : BitVec 32 := Scalar.muli arg32 c256_i32_1123
  let v2167 : BitVec 32 := v2166
  let v2289 : BitVec 32 := Scalar.addi c8_i32_1197 v2167
  let v2290 : Index := Scalar.indexCast v2289
  let c0_1198 : Index := 0#32
  ![v2290.toNat, 0]
@[reducible] def k0_t6_loop (i : grid0.Coords) : Scf.Loop 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let v295 : BitVec 32 := Scalar.addi c0_i32_197 v294
  let c1_i32_200 : BitVec 32 := 1#32
  ⟨v298, v295, c1_i32_200⟩
def k0_mult6 (i : grid0.Coords) (k0_t6 : Fin (k0_t6_loop i).trips) : BitVec 32 :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  v2166
def k0_off47 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2169 : Index := Scalar.indexCast v2167
  let c0_1125 : Index := 0#32
  ![v2169.toNat, 0]
def k0_off48 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2184 : Index := Scalar.indexCast v2167
  let c128_1134 : Index := 128#32
  ![v2184.toNat, 128]
def k0_off49 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2199 : Index := Scalar.indexCast v2167
  let c256_1143 : Index := 256#32
  ![v2199.toNat, 256]
def k0_off50 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2214 : Index := Scalar.indexCast v2167
  let c384_1152 : Index := 384#32
  ![v2214.toNat, 384]
def k0_off51 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2229 : Index := Scalar.indexCast v2167
  let c512_1161 : Index := 512#32
  ![v2229.toNat, 512]
def k0_off52 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2244 : Index := Scalar.indexCast v2167
  let c640_1170 : Index := 640#32
  ![v2244.toNat, 640]
def k0_off53 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2259 : Index := Scalar.indexCast v2167
  let c768_1179 : Index := 768#32
  ![v2259.toNat, 768]
def k0_off54 (i : grid0.Coords) (k0_t6 : Fin (k0_t6_loop i).trips) : Fin 2 → Nat :=
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2274 : Index := Scalar.indexCast v2167
  let c896_1188 : Index := 896#32
  ![v2274.toNat, 896]
def k0_off55 (i : grid0.Coords) (k0_t6 : Fin (k0_t6_loop i).trips) : Fin 2 → Nat :=
  let c8_i32_1197 : BitVec 32 := 8#32
  let c0_i32_197 : BitVec 32 := 0#32
  let arg1 : BitVec 32 := BitVec.ofNat 32 (i 1).val
  let c128_i32 : BitVec 32 := 128#32
  let v0 : BitVec 32 := Scalar.muli arg1 c128_i32
  let c128_i32_51 : BitVec 32 := 128#32
  let v69 : BitVec 32 := Scalar.addi v0 c128_i32_51
  let c32_i32 : BitVec 32 := 32#32
  let v70 : BitVec 32 := Scalar.subi v69 c32_i32
  let c0_i32 : BitVec 32 := 0#32
  let v72 : BitVec 1 := Scalar.cmpi .sgt v70 c0_i32
  let v73 : BitVec 32 := Scalar.extui v72
  let c0_i32_52 : BitVec 32 := 0#32
  let v74 : BitVec 1 := Scalar.cmpi .slt v70 c0_i32_52
  let v75 : BitVec 32 := Scalar.extui v74
  let v76 : BitVec 32 := Scalar.subi v73 v75
  let c16_i32 : BitVec 32 := 16#32
  let c0_i32_53 : BitVec 32 := 0#32
  let v77 : BitVec 1 := Scalar.cmpi .sgt c16_i32 c0_i32_53
  let v78 : BitVec 32 := Scalar.extui v77
  let c0_i32_54 : BitVec 32 := 0#32
  let v79 : BitVec 1 := Scalar.cmpi .slt c16_i32 c0_i32_54
  let v80 : BitVec 32 := Scalar.extui v79
  let v81 : BitVec 32 := Scalar.subi v78 v80
  let v82 : BitVec 1 := Scalar.cmpi .ne v76 v81
  let v83 : BitVec 32 := Scalar.remsi v70 c16_i32
  let c0_i32_55 : BitVec 32 := 0#32
  let v84 : BitVec 1 := Scalar.cmpi .ne v83 c0_i32_55
  let v85 : BitVec 1 := Scalar.andi v82 v84
  let v71 : BitVec 32 := Scalar.divsi v70 c16_i32
  let c1_i32 : BitVec 32 := 1#32
  let v86 : BitVec 32 := Scalar.subi v71 c1_i32
  let v87 : BitVec 32 := Scalar.select v85 v86 v71
  let c1_i32_56 : BitVec 32 := 1#32
  let v88 : BitVec 32 := Scalar.addi v87 c1_i32_56
  let c256_i32 : BitVec 32 := 256#32
  let v89 : BitVec 32 := Scalar.addi v88 c256_i32
  let c1_i32_57 : BitVec 32 := 1#32
  let v90 : BitVec 32 := Scalar.subi v89 c1_i32_57
  let c0_i32_59 : BitVec 32 := 0#32
  let v92 : BitVec 1 := Scalar.cmpi .sgt v90 c0_i32_59
  let v93 : BitVec 32 := Scalar.extui v92
  let c0_i32_60 : BitVec 32 := 0#32
  let v94 : BitVec 1 := Scalar.cmpi .slt v90 c0_i32_60
  let v95 : BitVec 32 := Scalar.extui v94
  let v96 : BitVec 32 := Scalar.subi v93 v95
  let c256_i32_58 : BitVec 32 := 256#32
  let c0_i32_61 : BitVec 32 := 0#32
  let v97 : BitVec 1 := Scalar.cmpi .sgt c256_i32_58 c0_i32_61
  let v98 : BitVec 32 := Scalar.extui v97
  let c0_i32_62 : BitVec 32 := 0#32
  let v99 : BitVec 1 := Scalar.cmpi .slt c256_i32_58 c0_i32_62
  let v100 : BitVec 32 := Scalar.extui v99
  let v101 : BitVec 32 := Scalar.subi v98 v100
  let v102 : BitVec 1 := Scalar.cmpi .ne v96 v101
  let v103 : BitVec 32 := Scalar.remsi v90 c256_i32_58
  let c0_i32_63 : BitVec 32 := 0#32
  let v104 : BitVec 1 := Scalar.cmpi .ne v103 c0_i32_63
  let v105 : BitVec 1 := Scalar.andi v102 v104
  let v91 : BitVec 32 := Scalar.divsi v90 c256_i32_58
  let c1_i32_64 : BitVec 32 := 1#32
  let v106 : BitVec 32 := Scalar.subi v91 c1_i32_64
  let v107 : BitVec 32 := Scalar.select v105 v106 v91
  let v294 : BitVec 32 := Scalar.subi v107 c0_i32_197
  let c1_i32_198 : BitVec 32 := 1#32
  let v296 : BitVec 32 := Scalar.divsi v294 c1_i32_198
  let v297 : BitVec 32 := Scalar.muli v296 c1_i32_198
  let v298 : BitVec 32 := Scalar.addi c0_i32_197 v297
  let c1_i32_200 : BitVec 32 := 1#32
  let arg32 : BitVec 32 := Scf.iv v298 c1_i32_200 k0_t6
  let c256_i32_1123 : BitVec 32 := 256#32
  let v2166 : BitVec 32 := Scalar.muli arg32 c256_i32_1123
  let v2167 : BitVec 32 := v2166
  let v2289 : BitVec 32 := Scalar.addi c8_i32_1197 v2167
  let v2290 : Index := Scalar.indexCast v2289
  let c0_1198 : Index := 0#32
  ![v2290.toNat, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_225 : BitVec 32 := 128#32
  let v363 : BitVec 32 := Scalar.addi v0 c128_i32_225
  let c1_i32_226 : BitVec 32 := 1#32
  let v364 : BitVec 32 := Scalar.subi v363 c1_i32_226
  let c0_i32_228 : BitVec 32 := 0#32
  let v366 : BitVec 1 := Scalar.cmpi .sgt v364 c0_i32_228
  let v367 : BitVec 32 := Scalar.extui v366
  let c0_i32_229 : BitVec 32 := 0#32
  let v368 : BitVec 1 := Scalar.cmpi .slt v364 c0_i32_229
  let v369 : BitVec 32 := Scalar.extui v368
  let v370 : BitVec 32 := Scalar.subi v367 v369
  let c64_i32_227 : BitVec 32 := 64#32
  let c0_i32_230 : BitVec 32 := 0#32
  let v371 : BitVec 1 := Scalar.cmpi .sgt c64_i32_227 c0_i32_230
  let v372 : BitVec 32 := Scalar.extui v371
  let c0_i32_231 : BitVec 32 := 0#32
  let v373 : BitVec 1 := Scalar.cmpi .slt c64_i32_227 c0_i32_231
  let v374 : BitVec 32 := Scalar.extui v373
  let v375 : BitVec 32 := Scalar.subi v372 v374
  let v376 : BitVec 1 := Scalar.cmpi .ne v370 v375
  let v377 : BitVec 32 := Scalar.remsi v364 c64_i32_227
  let c0_i32_232 : BitVec 32 := 0#32
  let v378 : BitVec 1 := Scalar.cmpi .ne v377 c0_i32_232
  let v379 : BitVec 1 := Scalar.andi v376 v378
  let v365 : BitVec 32 := Scalar.divsi v364 c64_i32_227
  let c1_i32_233 : BitVec 32 := 1#32
  let v380 : BitVec 32 := Scalar.subi v365 c1_i32_233
  let v381 : BitVec 32 := Scalar.select v379 v380 v365
  let c128_i32_234 : BitVec 32 := 128#32
  let v382 : BitVec 1 := Scalar.cmpi .slt v381 c128_i32_234
  let v383 : BitVec 32 := Scalar.extui v382
  let c0_i32_235 : BitVec 32 := 0#32
  let v384 : BitVec 1 := Scalar.cmpi .ne v383 c0_i32_235
  v384

@[reducible] def k0_t7_loop : Scf.Loop 32 :=
  let c0_i32_1123 : BitVec 32 := 0#32
  let c13_i32 : BitVec 32 := 13#32
  let v2167 : BitVec 32 := Scalar.addi c0_i32_1123 c13_i32
  let c1_i32_1124 : BitVec 32 := 1#32
  ⟨c0_i32_1123, v2167, c1_i32_1124⟩
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_225 : BitVec 32 := 128#32
  let v363 : BitVec 32 := Scalar.addi v0 c128_i32_225
  let c1_i32_226 : BitVec 32 := 1#32
  let v364 : BitVec 32 := Scalar.subi v363 c1_i32_226
  let c0_i32_228 : BitVec 32 := 0#32
  let v366 : BitVec 1 := Scalar.cmpi .sgt v364 c0_i32_228
  let v367 : BitVec 32 := Scalar.extui v366
  let c0_i32_229 : BitVec 32 := 0#32
  let v368 : BitVec 1 := Scalar.cmpi .slt v364 c0_i32_229
  let v369 : BitVec 32 := Scalar.extui v368
  let v370 : BitVec 32 := Scalar.subi v367 v369
  let c64_i32_227 : BitVec 32 := 64#32
  let c0_i32_230 : BitVec 32 := 0#32
  let v371 : BitVec 1 := Scalar.cmpi .sgt c64_i32_227 c0_i32_230
  let v372 : BitVec 32 := Scalar.extui v371
  let c0_i32_231 : BitVec 32 := 0#32
  let v373 : BitVec 1 := Scalar.cmpi .slt c64_i32_227 c0_i32_231
  let v374 : BitVec 32 := Scalar.extui v373
  let v375 : BitVec 32 := Scalar.subi v372 v374
  let v376 : BitVec 1 := Scalar.cmpi .ne v370 v375
  let v377 : BitVec 32 := Scalar.remsi v364 c64_i32_227
  let c0_i32_232 : BitVec 32 := 0#32
  let v378 : BitVec 1 := Scalar.cmpi .ne v377 c0_i32_232
  let v379 : BitVec 1 := Scalar.andi v376 v378
  let v365 : BitVec 32 := Scalar.divsi v364 c64_i32_227
  let c1_i32_233 : BitVec 32 := 1#32
  let v380 : BitVec 32 := Scalar.subi v365 c1_i32_233
  let v381 : BitVec 32 := Scalar.select v379 v380 v365
  let c128_i32_234 : BitVec 32 := 128#32
  let v382 : BitVec 1 := Scalar.cmpi .slt v381 c128_i32_234
  let v_true : BitVec 1 := 1#1
  let v385 : BitVec 1 := Scalar.xori v382 v_true
  let v386 : BitVec 32 := Scalar.extui v385
  let c0_i32_236 : BitVec 32 := 0#32
  let v387 : BitVec 1 := Scalar.cmpi .ne v386 c0_i32_236
  v387

@[reducible] def k0_t8_loop : Scf.Loop 32 :=
  let c0_i32_1123 : BitVec 32 := 0#32
  let c13_i32 : BitVec 32 := 13#32
  let v2166 : BitVec 32 := Scalar.addi c0_i32_1123 c13_i32
  let c1_i32_1124 : BitVec 32 := 1#32
  ⟨c0_i32_1123, v2166, c1_i32_1124⟩
@[reducible] def k0_t9_loop (i : grid0.Coords) : Scf.Loop 32 :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_362 : BitVec 32 := 1#32
  ⟨c0_i32_360, v675, c1_i32_362⟩
def k0_off56 (i : grid0.Coords) (k0_t9 : Fin (k0_t9_loop i).trips) : Fin 1 → Nat :=
  let c0_i32_360 : BitVec 32 := 0#32
  let c1_i32_362 : BitVec 32 := 1#32
  let arg32 : BitVec 32 := Scf.iv c0_i32_360 c1_i32_362 k0_t9
  let v2166 : Index := Scalar.indexCast arg32
  ![v2166.toNat]
def k0_mult7 (i : grid0.Coords) (k0_t9 : Fin (k0_t9_loop i).trips) : BitVec 32 :=
  let c0_i32_360 : BitVec 32 := 0#32
  let c1_i32_362 : BitVec 32 := 1#32
  let arg32 : BitVec 32 := Scf.iv c0_i32_360 c1_i32_362 k0_t9
  let c512_i32_1125 : BitVec 32 := 512#32
  let v2171 : BitVec 32 := Scalar.muli arg32 c512_i32_1125
  v2171
def k0_off57 (i : grid0.Coords) (k0_t9 : Fin (k0_t9_loop i).trips) : Fin 2 → Nat :=
  let c0_i32_360 : BitVec 32 := 0#32
  let c1_i32_362 : BitVec 32 := 1#32
  let arg32 : BitVec 32 := Scf.iv c0_i32_360 c1_i32_362 k0_t9
  let c512_i32_1125 : BitVec 32 := 512#32
  let v2171 : BitVec 32 := Scalar.muli arg32 c512_i32_1125
  let v2172 : BitVec 32 := v2171
  let v2173 : Index := Scalar.indexCast v2172
  let c0_1126 : Index := 0#32
  ![v2173.toNat, 0]
def k0_mult8 (i : grid0.Coords) (k0_t9 : Fin (k0_t9_loop i).trips) : BitVec 32 :=
  let c0_i32_360 : BitVec 32 := 0#32
  let c1_i32_362 : BitVec 32 := 1#32
  let arg32 : BitVec 32 := Scf.iv c0_i32_360 c1_i32_362 k0_t9
  let c8_i32_1129 : BitVec 32 := 8#32
  let v2178 : BitVec 32 := Scalar.muli arg32 c8_i32_1129
  v2178
def k0_off58 (i : grid0.Coords) (k0_t9 : Fin (k0_t9_loop i).trips) : Fin 2 → Nat :=
  let c0_i32_360 : BitVec 32 := 0#32
  let c1_i32_362 : BitVec 32 := 1#32
  let arg32 : BitVec 32 := Scf.iv c0_i32_360 c1_i32_362 k0_t9
  let c8_i32_1129 : BitVec 32 := 8#32
  let v2178 : BitVec 32 := Scalar.muli arg32 c8_i32_1129
  let v2179 : BitVec 32 := v2178
  let v2180 : Index := Scalar.indexCast v2179
  let c0_1130 : Index := 0#32
  ![v2180.toNat, 0]
def k0_off59 (i : grid0.Coords) (k0_t9 : Fin (k0_t9_loop i).trips) : Fin 3 → Nat :=
  let c0_i32_360 : BitVec 32 := 0#32
  let c1_i32_362 : BitVec 32 := 1#32
  let arg32 : BitVec 32 := Scf.iv c0_i32_360 c1_i32_362 k0_t9
  let v2193 : Index := Scalar.indexCast arg32
  let c0_1136 : Index := 0#32
  let c0_1137 : Index := 0#32
  ![v2193.toNat, 0, 0]
@[reducible] def k0_t10_loop (i : grid0.Coords) : Scf.Loop 32 :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let v672 : BitVec 32 := Scalar.addi c0_i32_360 v671
  let c1_i32_363 : BitVec 32 := 1#32
  ⟨v675, v672, c1_i32_363⟩
def k0_off60 (i : grid0.Coords) (k0_t10 : Fin (k0_t10_loop i).trips) : Fin 1 → Nat :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let v2166 : Index := Scalar.indexCast arg32
  ![v2166.toNat]
def k0_mult9 (i : grid0.Coords) (k0_t10 : Fin (k0_t10_loop i).trips) : BitVec 32 :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let c512_i32_1125 : BitVec 32 := 512#32
  let v2171 : BitVec 32 := Scalar.muli arg32 c512_i32_1125
  v2171
def k0_off61 (i : grid0.Coords) (k0_t10 : Fin (k0_t10_loop i).trips) : Fin 2 → Nat :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let c512_i32_1125 : BitVec 32 := 512#32
  let v2171 : BitVec 32 := Scalar.muli arg32 c512_i32_1125
  let v2172 : BitVec 32 := v2171
  let v2173 : Index := Scalar.indexCast v2172
  let c0_1126 : Index := 0#32
  ![v2173.toNat, 0]
def k0_mult10 (i : grid0.Coords) (k0_t10 : Fin (k0_t10_loop i).trips) : BitVec 32 :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let c8_i32_1129 : BitVec 32 := 8#32
  let v2178 : BitVec 32 := Scalar.muli arg32 c8_i32_1129
  v2178
def k0_off62 (i : grid0.Coords) (k0_t10 : Fin (k0_t10_loop i).trips) : Fin 2 → Nat :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let c8_i32_1129 : BitVec 32 := 8#32
  let v2178 : BitVec 32 := Scalar.muli arg32 c8_i32_1129
  let v2179 : BitVec 32 := v2178
  let v2180 : Index := Scalar.indexCast v2179
  let c0_1130 : Index := 0#32
  ![v2180.toNat, 0]
def k0_off63 (i : grid0.Coords) (k0_t10 : Fin (k0_t10_loop i).trips) : Fin 3 → Nat :=
  let c0_i32_360 : BitVec 32 := 0#32
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v671 : BitVec 32 := Scalar.subi v670 c0_i32_360
  let c1_i32_361 : BitVec 32 := 1#32
  let v673 : BitVec 32 := Scalar.divsi v671 c1_i32_361
  let v674 : BitVec 32 := Scalar.muli v673 c1_i32_361
  let v675 : BitVec 32 := Scalar.addi c0_i32_360 v674
  let c1_i32_363 : BitVec 32 := 1#32
  let arg32 : BitVec 32 := Scf.iv v675 c1_i32_363 k0_t10
  let v2193 : Index := Scalar.indexCast arg32
  let c0_1136 : Index := 0#32
  let c0_1137 : Index := 0#32
  ![v2193.toNat, 0, 0]
def k0_mult11 (i : grid0.Coords) : BitVec 32 :=
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let c512_i32_370 : BitVec 32 := 512#32
  let v684 : BitVec 32 := Scalar.muli v670 c512_i32_370
  v684
def k0_off64 (i : grid0.Coords) : Fin 2 → Nat :=
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let c512_i32_370 : BitVec 32 := 512#32
  let v684 : BitVec 32 := Scalar.muli v670 c512_i32_370
  let v685 : BitVec 32 := v684
  let v686 : Index := Scalar.indexCast v685
  let c0_371 : Index := 0#32
  ![v686.toNat, 0]
def k0_mult12 (i : grid0.Coords) : BitVec 32 :=
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let c8_i32_374 : BitVec 32 := 8#32
  let v691 : BitVec 32 := Scalar.muli v670 c8_i32_374
  v691
def k0_off65 (i : grid0.Coords) : Fin 2 → Nat :=
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let c8_i32_374 : BitVec 32 := 8#32
  let v691 : BitVec 32 := Scalar.muli v670 c8_i32_374
  let v692 : BitVec 32 := v691
  let v693 : Index := Scalar.indexCast v692
  let c0_375 : Index := 0#32
  ![v693.toNat, 0]
def k0_mult13 (i : grid0.Coords) : BitVec 32 :=
  let arg1 : BitVec 32 := BitVec.ofNat 32 (i 1).val
  let c1_i32_381 : BitVec 32 := 1#32
  let v706 : BitVec 32 := Scalar.muli arg1 c1_i32_381
  let c4_i32_382 : BitVec 32 := 4#32
  let v707 : BitVec 32 := Scalar.subi v706 c4_i32_382
  let c0_i32_383 : BitVec 32 := 0#32
  let v708 : BitVec 32 := Scalar.maxsi v707 c0_i32_383
  let c128_i32_384 : BitVec 32 := 128#32
  let v709 : BitVec 32 := Scalar.muli v708 c128_i32_384
  v709
def k0_off66 (i : grid0.Coords) : Fin 2 → Nat :=
  let arg1 : BitVec 32 := BitVec.ofNat 32 (i 1).val
  let c1_i32_381 : BitVec 32 := 1#32
  let v706 : BitVec 32 := Scalar.muli arg1 c1_i32_381
  let c4_i32_382 : BitVec 32 := 4#32
  let v707 : BitVec 32 := Scalar.subi v706 c4_i32_382
  let c0_i32_383 : BitVec 32 := 0#32
  let v708 : BitVec 32 := Scalar.maxsi v707 c0_i32_383
  let c128_i32_384 : BitVec 32 := 128#32
  let v709 : BitVec 32 := Scalar.muli v708 c128_i32_384
  let v710 : BitVec 32 := v709
  let v711 : Index := Scalar.indexCast v710
  let c0_385 : Index := 0#32
  ![v711.toNat, 0]
def k0_off67 (i : grid0.Coords) : Fin 3 → Nat :=
  let arg1 : BitVec 32 := BitVec.ofNat 32 (i 1).val
  let c128_i32 : BitVec 32 := 128#32
  let v0 : BitVec 32 := Scalar.muli arg1 c128_i32
  let c128_i32_351 : BitVec 32 := 128#32
  let v652 : BitVec 32 := Scalar.addi v0 c128_i32_351
  let c1_i32_352 : BitVec 32 := 1#32
  let v653 : BitVec 32 := Scalar.subi v652 c1_i32_352
  let c0_i32_353 : BitVec 32 := 0#32
  let v655 : BitVec 1 := Scalar.cmpi .sgt v653 c0_i32_353
  let v656 : BitVec 32 := Scalar.extui v655
  let c0_i32_354 : BitVec 32 := 0#32
  let v657 : BitVec 1 := Scalar.cmpi .slt v653 c0_i32_354
  let v658 : BitVec 32 := Scalar.extui v657
  let v659 : BitVec 32 := Scalar.subi v656 v658
  let c512_i32 : BitVec 32 := 512#32
  let c0_i32_355 : BitVec 32 := 0#32
  let v660 : BitVec 1 := Scalar.cmpi .sgt c512_i32 c0_i32_355
  let v661 : BitVec 32 := Scalar.extui v660
  let c0_i32_356 : BitVec 32 := 0#32
  let v662 : BitVec 1 := Scalar.cmpi .slt c512_i32 c0_i32_356
  let v663 : BitVec 32 := Scalar.extui v662
  let v664 : BitVec 32 := Scalar.subi v661 v663
  let v665 : BitVec 1 := Scalar.cmpi .ne v659 v664
  let v666 : BitVec 32 := Scalar.remsi v653 c512_i32
  let c0_i32_357 : BitVec 32 := 0#32
  let v667 : BitVec 1 := Scalar.cmpi .ne v666 c0_i32_357
  let v668 : BitVec 1 := Scalar.andi v665 v667
  let v654 : BitVec 32 := Scalar.divsi v653 c512_i32
  let c1_i32_358 : BitVec 32 := 1#32
  let v669 : BitVec 32 := Scalar.subi v654 c1_i32_358
  let v670 : BitVec 32 := Scalar.select v668 v669 v654
  let v731 : Index := Scalar.indexCast v670
  let c0_413 : Index := 0#32
  let c0_414 : Index := 0#32
  ![v731.toNat, 0, 0]
def k0_off68 (i : grid0.Coords) (c0_i32_706 : BitVec 32) : Fin 3 → Nat :=
  let arg1 : BitVec 32 := BitVec.ofNat 32 (i 1).val
  let c1_i32_381 : BitVec 32 := 1#32
  let v706 : BitVec 32 := Scalar.muli arg1 c1_i32_381
  let c4_i32_382 : BitVec 32 := 4#32
  let v707 : BitVec 32 := Scalar.subi v706 c4_i32_382
  let c0_i32_383 : BitVec 32 := 0#32
  let v708 : BitVec 32 := Scalar.maxsi v707 c0_i32_383
  let v1318 : BitVec 32 := Scalar.addi v708 c0_i32_706
  let v1319 : Index := Scalar.indexCast v1318
  let c0_707 : Index := 0#32
  let c0_708 : Index := 0#32
  ![v1319.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x144x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S16384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x144x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S640x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2.lean ====
abbrev S16384x2048 : Shape := ⟨2, ![16384, 2048]⟩
abbrev S2048x5120 : Shape := ⟨2, ![2048, 5120]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5120, .bf16⟩
  | .hbm, ⟨2, _⟩ => ⟨S16384x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x5120 : Shape := ⟨2, ![2048, 5120]⟩
abbrev S16384x5120 : Shape := ⟨2, ![16384, 5120]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5120, .bf16⟩
  | .hbm, ⟨2, _⟩ => ⟨S16384x2048, .f32⟩
  | .hbm, ⟨3, _⟩ => ⟨S2048x5120, .f32⟩
  | .hbm, ⟨4, _⟩ => ⟨S16384x5120, .f32⟩
  | .hbm, ⟨5, _⟩ => ⟨S16384x5120, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x5632 : Shape := ⟨2, ![16384, 5632]⟩
abbrev S5632x2048 : Shape := ⟨2, ![5632, 2048]⟩
abbrev S16384x2048 : Shape := ⟨2, ![16384, 2048]⟩
abbrev S8x12288 : Shape := ⟨2, ![8, 12288]⟩
abbrev S1024x5632 : Shape := ⟨2, ![1024, 5632]⟩
abbrev S5632x512 : Shape := ⟨2, ![5632, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x12288, .f32⟩
  | .hbm, ⟨4, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x5632 : Shape := ⟨2, ![16384, 5632]⟩
abbrev S5632x2048 : Shape := ⟨2, ![5632, 2048]⟩
abbrev S16384x2048 : Shape := ⟨2, ![16384, 2048]⟩
abbrev S8x12288 : Shape := ⟨2, ![8, 12288]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x12288, .f32⟩
  | .hbm, ⟨4, _⟩ => ⟨S1x2048, .f32⟩
  | .hbm, ⟨5, _⟩ => ⟨S16384x5632, .f32⟩
  | .hbm, ⟨6, _⟩ => ⟨S5632x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S16384x2048 : Shape := ⟨2, ![16384, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048x4096 : Shape := ⟨2, ![2048, 4096]⟩
abbrev S16384x4096 : Shape := ⟨2, ![16384, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .f32⟩
  | .hbm, ⟨3, _⟩ => ⟨S2048x4096, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S2048 : Shape := ⟨1, ![2048]⟩
abbrev S16384x5120 : Shape := ⟨2, ![16384, 5120]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .bf16⟩
  | .hbm, ⟨3, _⟩ => ⟨S2048x2048, .bf16⟩
  | .hbm, ⟨4, _⟩ => ⟨S2048, .f32⟩
  | .hbm, ⟨5, _⟩ => ⟨S16384x5120, .bf16⟩
  | .hbm, ⟨6, _⟩ => ⟨S1x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16384x2048 : Shape := ⟨2, ![16384, 2048]⟩
abbrev S2048x2048 : Shape := ⟨2, ![2048, 2048]⟩
abbrev S2048 : Shape := ⟨1, ![2048]⟩
abbrev S16384x5120 : Shape := ⟨2, ![16384, 5120]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .bf16⟩
  | .hbm, ⟨3, _⟩ => ⟨S2048x2048, .bf16⟩
  | .hbm, ⟨4, _⟩ => ⟨S2048, .f32⟩
  | .hbm, ⟨5, _⟩ => ⟨S16384x5120, .bf16⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S2048x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .bf16⟩
  | .hbm, ⟨16, _⟩ => ⟨S16384x2048, .f32⟩
  | .hbm, ⟨17, _⟩ => ⟨S16384x2048, .bf16⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S8x12288 : Shape := ⟨2, ![8, 12288]⟩
abbrev S2048 : Shape := ⟨1, ![2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x12288, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x2048 : Shape := ⟨2, ![16384, 2048]⟩
abbrev S2048x2048 : Shape := ⟨2, ![2048, 2048]⟩
abbrev S8x12288 : Shape := ⟨2, ![8, 12288]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x12288, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel7.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S5x11264 : Shape := ⟨2, ![5, 11264]⟩
abbrev S8x11264 : Shape := ⟨2, ![8, 11264]⟩
abbrev S1x11264 : Shape := ⟨2, ![1, 11264]⟩
abbrev S16384x5632 : Shape := ⟨2, ![16384, 5632]⟩
abbrev S1024x2048 : Shape := ⟨2, ![1024, 2048]⟩
abbrev S2048x512 : Shape := ⟨2, ![2048, 512]⟩
abbrev S8x512 : Shape := ⟨2, ![8, 512]⟩
abbrev S1x512 : Shape := ⟨2, ![1, 512]⟩
abbrev S1024x512 : Shape := ⟨2, ![1024, 512]⟩
abbrev S11x8x512 : Shape := ⟨3, ![11, 8, 512]⟩
abbrev S1x8x512 : Shape := ⟨3, ![1, 8, 512]⟩
abbrev S256x2048 : Shape := ⟨2, ![256, 2048]⟩
abbrev S256x512 : Shape := ⟨2, ![256, 512]⟩
abbrev S264x512 : Shape := ⟨2, ![264, 512]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S_, .f32⟩
  | .hbm, ⟨5, _⟩ => ⟨S5x11264, .f32⟩
  | .hbm, ⟨6, _⟩ => ⟨S8x11264, .f32⟩
  | .hbm, ⟨7, _⟩ => ⟨S1x11264, .f32⟩
  | .hbm, ⟨8, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S11x8x512, .f32⟩
  | .local _ .vmem, ⟨17, _⟩ => ⟨S11x8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v268 : Index := Scalar.indexCast arg1
  let c0_121 : Index := 0#32
  let c0_122 : Index := 0#32
  ![v268.toNat, 0, 0]
def k0_off2 (i : grid0.Coords) : Fin 3 → Nat :=
  let arg1 : BitVec 32 := BitVec.ofNat 32 (i 1).val
  let v5 : Index := Scalar.indexCast arg1
  let c0_4 : Index := 0#32
  let c0_5 : Index := 0#32
  ![v5.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S16384x11264 : Shape := ⟨2, ![16384, 11264]⟩
abbrev S_ : Shape := ⟨0, ![]⟩
abbrev S16386x11264 : Shape := ⟨2, ![16386, 11264]⟩
abbrev S1x11264 : Shape := ⟨2, ![1, 11264]⟩
abbrev S16384x5632 : Shape := ⟨2, ![16384, 5632]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S16384x2048, .f32⟩
  | .hbm, ⟨5, _⟩ => ⟨S2048x11264, .f32⟩
  | .hbm, ⟨6, _⟩ => ⟨S16384x11264, .f32⟩
  | .hbm, ⟨7, _⟩ => ⟨S_, .i32⟩
  | .hbm, ⟨8, _⟩ => ⟨S_, .f32⟩
  | .hbm, ⟨9, _⟩ => ⟨S16386x11264, .f32⟩
  | .hbm, ⟨10, _⟩ => ⟨S1x11264, .f32⟩
  | .hbm, ⟨11, _⟩ => ⟨S16384x11264, .f32⟩
  | .hbm, ⟨12, _⟩ => ⟨S16384x11264, .f32⟩
  | .hbm, ⟨13, _⟩ => ⟨S16384x11264, .f32⟩
  | .hbm, ⟨14, _⟩ => ⟨S1x11264, .f32⟩
  | .hbm, ⟨15, _⟩ => ⟨S16384x11264, .f32⟩
  | .hbm, ⟨16, _⟩ => ⟨S16384x11264, .f32⟩
  | .hbm, ⟨17, _⟩ => ⟨S16384x11264, .f32⟩
  | .hbm, ⟨18, _⟩ => ⟨S16384x11264, .f32⟩
  | .hbm, ⟨19, _⟩ => ⟨S1x11264, .f32⟩
  | .hbm, ⟨20, _⟩ => ⟨S16384x11264, .f32⟩
  | .hbm, ⟨21, _⟩ => ⟨S16384x11264, .f32⟩
  | .hbm, ⟨22, _⟩ => ⟨S16384x11264, .f32⟩
  | .hbm, ⟨23, _⟩ => ⟨S16384x11264, .f32⟩
  | .hbm, ⟨24, _⟩ => ⟨S1x11264, .f32⟩
  | .hbm, ⟨25, _⟩ => ⟨S16384x11264, .f32⟩
  | .hbm, ⟨26, _⟩ => ⟨S16384x11264, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.NsaIdealT9.lean ====
/- The two counted loops over the selected tiles, each by a constant invariant. -/
module

public import proofs.«01_k».proof.Proof.Gen.KernelIdeal.Loops

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Loop `t9` of the attention's body: between trips it holds the buffers it reads at their contents and the
    buffers it writes at some contents. -/
@[sl_loop] noncomputable def inv_t9 (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1x4x144x256 .bf16) (harg4 : arg4.IsWhole) (arg5 : Memref sig .tc .vmem S16384x128 .bf16) (harg5 : arg5.IsWhole) (arg6 : Memref sig .tc .vmem S32x144x512 .bf16) (harg6 : arg6.IsWhole) (arg7 : Memref sig .tc .vmem S16384x128 .bf16) (harg7 : arg7.IsWhole) (arg8 : Memref sig .tc .vmem S128x144x128 .bf16) (harg8 : arg8.IsWhole) (arg9 : Memref sig .tc .vmem S64x128 .f32) (harg9 : arg9.IsWhole) (arg10 : Memref sig .tc .vmem S1x1x1024 .f32) (harg10 : arg10.IsWhole) (arg11 : Memref sig .tc .vmem S1x16x1024 .bf16) (harg11 : arg11.IsWhole) (arg12 : Memref sig .tc .vmem S512x128 .bf16) (harg12 : arg12.IsWhole) (arg13 : Memref sig .tc .vmem S640x128 .bf16) (harg13 : arg13.IsWhole) (arg14 : Memref sig .tc .vmem S256x128 .bf16) (harg14 : arg14.IsWhole) (arg15 : Memref sig .tc .vmem S128x1024 .bf16) (harg15 : arg15.IsWhole) (arg16 : Memref sig .tc .vmem S256x1024 .bf16) (harg16 : arg16.IsWhole) (arg17 : Memref sig .tc .vmem S512x256 .bf16) (harg17 : arg17.IsWhole) (arg18 : Memref sig .tc .vmem S640x256 .bf16) (harg18 : arg18.IsWhole) (arg19 : Memref sig .tc .vmem S256x256 .bf16) (harg19 : arg19.IsWhole) (arg20 : Memref sig .tc .vmem S1x1024 .f32) (harg20 : arg20.IsWhole) (arg21 : Memref sig .tc .vmem S144x1024 .f32) (harg21 : arg21.IsWhole) (arg22 : Memref sig .tc .vmem S512x1024 .bf16) (harg22 : arg22.IsWhole) (arg23 : Memref sig .tc .vmem S1x1024 .f32) (harg23 : arg23.IsWhole) (arg24 : Memref sig .tc .vmem S144x1024 .f32) (harg24 : arg24.IsWhole) (arg25 : Memref sig .tc .vmem S640x1024 .bf16) (harg25 : arg25.IsWhole) (arg26 : Memref sig .tc .vmem S128x1024 .f32) (harg26 : arg26.IsWhole) (arg27 : Memref sig .tc .vmem S1024x1024 .f32) (harg27 : arg27.IsWhole) (arg28 : Memref sig .tc .vmem S1032x128 .f32) (harg28 : arg28.IsWhole) (arg29 : Memref sig .tc .vmem S256x128 .f32) (harg29 : arg29.IsWhole) (arg30 : Memref sig .tc .vmem S256x128 .f32) (harg30 : arg30.IsWhole) (arg31 : Memref sig .tc .smem S32 .i32) (harg31 : arg31.IsWhole) (v0 : BitVec 32) (cst_345 : F .f32) (X_arg5 : BufTy.Contents (Elt F) arg5.view.ty) (X_arg6 : BufTy.Contents (Elt F) arg6.view.ty) (X_arg10 : BufTy.Contents (Elt F) arg10.view.ty) (X_arg30 : BufTy.Contents (Elt F) arg30.view.ty) (X_arg31 : BufTy.Contents (Elt F) arg31.view.ty) :
    Gen.LoopInvTy_k0_t9 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v0 cst_345 where
  inv := fun _ _ => iprop((arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} X_arg10) ∗ (arg30.view.loc (c : Thread nD τ) ↦[arg30.view.set]{fullShare} X_arg30) ∗ (arg31.view.loc (c : Thread nD τ) ↦[arg31.view.set]{fullShare} X_arg31) ∗ (∃ f, arg16.view.loc (c : Thread nD τ) ↦[arg16.view.set]{fullShare} f) ∗ (∃ f, arg17.view.loc (c : Thread nD τ) ↦[arg17.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f))
  step := fun k acc => by
    obtain ⟨⟩ := acc
    unfold Gen.k0_t9_body
    iintro ⟨HR_arg5, HR_arg6, HR_arg10, HR_arg30, HR_arg31, ⟨%f_arg16, HW_arg16⟩, ⟨%f_arg17, HW_arg17⟩, ⟨%f_arg20, HW_arg20⟩, ⟨%f_arg21, HW_arg21⟩, ⟨%f_arg22, HW_arg22⟩⟩
    sl_exec_parts
    sl_step
    isplitl [HR_arg5]; · iexact HR_arg5
    isplitl [HR_arg6]; · iexact HR_arg6
    isplitl [HR_arg10]; · iexact HR_arg10
    isplitl [HR_arg30]; · iexact HR_arg30
    isplitl [HR_arg31]; · iexact HR_arg31
    isplitl [HW_arg16]; · iexists _; iexact HW_arg16
    isplitl [HW_arg17]; · iexists _; iexact HW_arg17
    isplitl [HW_arg20]; · iexists _; iexact HW_arg20
    isplitl [HW_arg21]; · iexists _; iexact HW_arg21
    iexists _; iexact HW_arg22

end Cert.Proof.KernelIdeal

end
-- ==== Proof.NsaIdealT10.lean ====
/- The two counted loops over the selected tiles, each by a constant invariant. -/
module

public import proofs.«01_k».proof.Proof.Gen.KernelIdeal.Loops

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Loop `t10` of the attention's body: between trips it holds the buffers it reads at their contents and the
    buffers it writes at some contents. -/
@[sl_loop] noncomputable def inv_t10 (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1x4x144x256 .bf16) (harg4 : arg4.IsWhole) (arg5 : Memref sig .tc .vmem S16384x128 .bf16) (harg5 : arg5.IsWhole) (arg6 : Memref sig .tc .vmem S32x144x512 .bf16) (harg6 : arg6.IsWhole) (arg7 : Memref sig .tc .vmem S16384x128 .bf16) (harg7 : arg7.IsWhole) (arg8 : Memref sig .tc .vmem S128x144x128 .bf16) (harg8 : arg8.IsWhole) (arg9 : Memref sig .tc .vmem S64x128 .f32) (harg9 : arg9.IsWhole) (arg10 : Memref sig .tc .vmem S1x1x1024 .f32) (harg10 : arg10.IsWhole) (arg11 : Memref sig .tc .vmem S1x16x1024 .bf16) (harg11 : arg11.IsWhole) (arg12 : Memref sig .tc .vmem S512x128 .bf16) (harg12 : arg12.IsWhole) (arg13 : Memref sig .tc .vmem S640x128 .bf16) (harg13 : arg13.IsWhole) (arg14 : Memref sig .tc .vmem S256x128 .bf16) (harg14 : arg14.IsWhole) (arg15 : Memref sig .tc .vmem S128x1024 .bf16) (harg15 : arg15.IsWhole) (arg16 : Memref sig .tc .vmem S256x1024 .bf16) (harg16 : arg16.IsWhole) (arg17 : Memref sig .tc .vmem S512x256 .bf16) (harg17 : arg17.IsWhole) (arg18 : Memref sig .tc .vmem S640x256 .bf16) (harg18 : arg18.IsWhole) (arg19 : Memref sig .tc .vmem S256x256 .bf16) (harg19 : arg19.IsWhole) (arg20 : Memref sig .tc .vmem S1x1024 .f32) (harg20 : arg20.IsWhole) (arg21 : Memref sig .tc .vmem S144x1024 .f32) (harg21 : arg21.IsWhole) (arg22 : Memref sig .tc .vmem S512x1024 .bf16) (harg22 : arg22.IsWhole) (arg23 : Memref sig .tc .vmem S1x1024 .f32) (harg23 : arg23.IsWhole) (arg24 : Memref sig .tc .vmem S144x1024 .f32) (harg24 : arg24.IsWhole) (arg25 : Memref sig .tc .vmem S640x1024 .bf16) (harg25 : arg25.IsWhole) (arg26 : Memref sig .tc .vmem S128x1024 .f32) (harg26 : arg26.IsWhole) (arg27 : Memref sig .tc .vmem S1024x1024 .f32) (harg27 : arg27.IsWhole) (arg28 : Memref sig .tc .vmem S1032x128 .f32) (harg28 : arg28.IsWhole) (arg29 : Memref sig .tc .vmem S256x128 .f32) (harg29 : arg29.IsWhole) (arg30 : Memref sig .tc .vmem S256x128 .f32) (harg30 : arg30.IsWhole) (arg31 : Memref sig .tc .smem S32 .i32) (harg31 : arg31.IsWhole) (v0 : BitVec 32) (cst_345 : F .f32) (v675 : BitVec 32) (X_arg5 : BufTy.Contents (Elt F) arg5.view.ty) (X_arg6 : BufTy.Contents (Elt F) arg6.view.ty) (X_arg10 : BufTy.Contents (Elt F) arg10.view.ty) (X_arg30 : BufTy.Contents (Elt F) arg30.view.ty) (X_arg31 : BufTy.Contents (Elt F) arg31.view.ty) :
    Gen.LoopInvTy_k0_t10 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v0 cst_345 v675 where
  inv := fun _ _ => iprop((arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} X_arg10) ∗ (arg30.view.loc (c : Thread nD τ) ↦[arg30.view.set]{fullShare} X_arg30) ∗ (arg31.view.loc (c : Thread nD τ) ↦[arg31.view.set]{fullShare} X_arg31) ∗ (∃ f, arg16.view.loc (c : Thread nD τ) ↦[arg16.view.set]{fullShare} f) ∗ (∃ f, arg17.view.loc (c : Thread nD τ) ↦[arg17.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f))
  step := fun k acc => by
    obtain ⟨⟩ := acc
    unfold Gen.k0_t10_body
    iintro ⟨HR_arg5, HR_arg6, HR_arg10, HR_arg30, HR_arg31, ⟨%f_arg16, HW_arg16⟩, ⟨%f_arg17, HW_arg17⟩, ⟨%f_arg20, HW_arg20⟩, ⟨%f_arg21, HW_arg21⟩, ⟨%f_arg22, HW_arg22⟩⟩
    sl_exec_parts
    sl_step
    isplitl [HR_arg5]; · iexact HR_arg5
    isplitl [HR_arg6]; · iexact HR_arg6
    isplitl [HR_arg10]; · iexact HR_arg10
    isplitl [HR_arg30]; · iexact HR_arg30
    isplitl [HR_arg31]; · iexact HR_arg31
    isplitl [HW_arg16]; · iexists _; iexact HW_arg16
    isplitl [HW_arg17]; · iexists _; iexact HW_arg17
    isplitl [HW_arg20]; · iexists _; iexact HW_arg20
    isplitl [HW_arg21]; · iexists _; iexact HW_arg21
    iexists _; iexact HW_arg22

end Cert.Proof.KernelIdeal

end
-- ==== Proof.NsaIdealBody.lean ====
/- The attention kernel's body, run once on any memrefs. -/
module

public import proofs.«01_k».proof.Proof.NsaIdealT9
public import proofs.«01_k».proof.Proof.NsaIdealT10

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one grid point of the attention holds before and after it: the thirteen inputs at their contents, the result
    block and the scratch buffers at some contents. -/
def Held (c : Dev nD) (arg2 : Memref sig .tc .vmem S1024x128 .bf16) (harg2 : arg2.IsWhole) (arg3 : Memref sig .tc .vmem S1x1024x128 .bf16) (harg3 : arg3.IsWhole) (arg4 : Memref sig .tc .vmem S1x4x144x256 .bf16) (harg4 : arg4.IsWhole) (arg5 : Memref sig .tc .vmem S16384x128 .bf16) (harg5 : arg5.IsWhole) (arg6 : Memref sig .tc .vmem S32x144x512 .bf16) (harg6 : arg6.IsWhole) (arg7 : Memref sig .tc .vmem S16384x128 .bf16) (harg7 : arg7.IsWhole) (arg8 : Memref sig .tc .vmem S128x144x128 .bf16) (harg8 : arg8.IsWhole) (arg9 : Memref sig .tc .vmem S64x128 .f32) (harg9 : arg9.IsWhole) (arg10 : Memref sig .tc .vmem S1x1x1024 .f32) (harg10 : arg10.IsWhole) (arg11 : Memref sig .tc .vmem S1x16x1024 .bf16) (harg11 : arg11.IsWhole) (arg12 : Memref sig .tc .vmem S512x128 .bf16) (harg12 : arg12.IsWhole) (arg13 : Memref sig .tc .vmem S640x128 .bf16) (harg13 : arg13.IsWhole) (arg14 : Memref sig .tc .vmem S256x128 .bf16) (harg14 : arg14.IsWhole) (arg15 : Memref sig .tc .vmem S128x1024 .bf16) (harg15 : arg15.IsWhole) (arg16 : Memref sig .tc .vmem S256x1024 .bf16) (harg16 : arg16.IsWhole) (arg17 : Memref sig .tc .vmem S512x256 .bf16) (harg17 : arg17.IsWhole) (arg18 : Memref sig .tc .vmem S640x256 .bf16) (harg18 : arg18.IsWhole) (arg19 : Memref sig .tc .vmem S256x256 .bf16) (harg19 : arg19.IsWhole) (arg20 : Memref sig .tc .vmem S1x1024 .f32) (harg20 : arg20.IsWhole) (arg21 : Memref sig .tc .vmem S144x1024 .f32) (harg21 : arg21.IsWhole) (arg22 : Memref sig .tc .vmem S512x1024 .bf16) (harg22 : arg22.IsWhole) (arg23 : Memref sig .tc .vmem S1x1024 .f32) (harg23 : arg23.IsWhole) (arg24 : Memref sig .tc .vmem S144x1024 .f32) (harg24 : arg24.IsWhole) (arg25 : Memref sig .tc .vmem S640x1024 .bf16) (harg25 : arg25.IsWhole) (arg26 : Memref sig .tc .vmem S128x1024 .f32) (harg26 : arg26.IsWhole) (arg27 : Memref sig .tc .vmem S1024x1024 .f32) (harg27 : arg27.IsWhole) (arg28 : Memref sig .tc .vmem S1032x128 .f32) (harg28 : arg28.IsWhole) (arg29 : Memref sig .tc .vmem S256x128 .f32) (harg29 : arg29.IsWhole) (arg30 : Memref sig .tc .vmem S256x128 .f32) (harg30 : arg30.IsWhole) (arg31 : Memref sig .tc .smem S32 .i32) (harg31 : arg31.IsWhole) (X_arg2 : S1024x128.Idx → Elt F .bf16) (X_arg3 : S1x1024x128.Idx → Elt F .bf16) (X_arg4 : S1x4x144x256.Idx → Elt F .bf16) (X_arg5 : S16384x128.Idx → Elt F .bf16) (X_arg6 : S32x144x512.Idx → Elt F .bf16) (X_arg7 : S16384x128.Idx → Elt F .bf16) (X_arg8 : S128x144x128.Idx → Elt F .bf16) (X_arg9 : S64x128.Idx → Elt F .f32) (X_arg10 : S1x1x1024.Idx → Elt F .f32) (X_arg11 : S1x16x1024.Idx → Elt F .bf16) (X_arg12 : S512x128.Idx → Elt F .bf16) (X_arg13 : S640x128.Idx → Elt F .bf16) (X_arg14 : S256x128.Idx → Elt F .bf16) : sProp (MT nD τ sig Unit (Elt F) ℕ (UR sig nD τ) ℕ) :=
  iprop(owns (c : Thread nD τ) arg2 fullShare X_arg2 ∗ owns (c : Thread nD τ) arg3 fullShare X_arg3 ∗ owns (c : Thread nD τ) arg4 fullShare X_arg4 ∗ owns (c : Thread nD τ) arg5 fullShare X_arg5 ∗ owns (c : Thread nD τ) arg6 fullShare X_arg6 ∗ owns (c : Thread nD τ) arg7 fullShare X_arg7 ∗ owns (c : Thread nD τ) arg8 fullShare X_arg8 ∗ owns (c : Thread nD τ) arg9 fullShare X_arg9 ∗ owns (c : Thread nD τ) arg10 fullShare X_arg10 ∗ owns (c : Thread nD τ) arg11 fullShare X_arg11 ∗ owns (c : Thread nD τ) arg12 fullShare X_arg12 ∗ owns (c : Thread nD τ) arg13 fullShare X_arg13 ∗ owns (c : Thread nD τ) arg14 fullShare X_arg14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d))

/-- A memref held at known contents is held at some contents. -/
theorem give (c : Dev nD) {sp : Space} {s : Shape} {e : EltTy} (m : Memref sig .tc sp s e) (f : Buf (Elt F) (m.view.loc (c : Thread nD τ))) :
    (m.view.loc (c : Thread nD τ) ↦[m.view.set]{fullShare} f : sProp (MT nD τ sig Unit (Elt F) ℕ (UR sig nD τ) ℕ))
      ⊢ iprop(∃ d, owns (c : Thread nD τ) m fullShare d) := by
  unfold owns
  iintro H
  iexists _; iexists f; isplitr
  · ipureintro; rfl
  · iexact H

set_option maxHeartbeats 0 in
/-- One grid point of the attention runs without fault and leaves its inputs as they were. -/
theorem body (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1x4x144x256 .bf16) (harg4 : arg4.IsWhole) (arg5 : Memref sig .tc .vmem S16384x128 .bf16) (harg5 : arg5.IsWhole) (arg6 : Memref sig .tc .vmem S32x144x512 .bf16) (harg6 : arg6.IsWhole) (arg7 : Memref sig .tc .vmem S16384x128 .bf16) (harg7 : arg7.IsWhole) (arg8 : Memref sig .tc .vmem S128x144x128 .bf16) (harg8 : arg8.IsWhole) (arg9 : Memref sig .tc .vmem S64x128 .f32) (harg9 : arg9.IsWhole) (arg10 : Memref sig .tc .vmem S1x1x1024 .f32) (harg10 : arg10.IsWhole) (arg11 : Memref sig .tc .vmem S1x16x1024 .bf16) (harg11 : arg11.IsWhole) (arg12 : Memref sig .tc .vmem S512x128 .bf16) (harg12 : arg12.IsWhole) (arg13 : Memref sig .tc .vmem S640x128 .bf16) (harg13 : arg13.IsWhole) (arg14 : Memref sig .tc .vmem S256x128 .bf16) (harg14 : arg14.IsWhole) (arg15 : Memref sig .tc .vmem S128x1024 .bf16) (harg15 : arg15.IsWhole) (arg16 : Memref sig .tc .vmem S256x1024 .bf16) (harg16 : arg16.IsWhole) (arg17 : Memref sig .tc .vmem S512x256 .bf16) (harg17 : arg17.IsWhole) (arg18 : Memref sig .tc .vmem S640x256 .bf16) (harg18 : arg18.IsWhole) (arg19 : Memref sig .tc .vmem S256x256 .bf16) (harg19 : arg19.IsWhole) (arg20 : Memref sig .tc .vmem S1x1024 .f32) (harg20 : arg20.IsWhole) (arg21 : Memref sig .tc .vmem S144x1024 .f32) (harg21 : arg21.IsWhole) (arg22 : Memref sig .tc .vmem S512x1024 .bf16) (harg22 : arg22.IsWhole) (arg23 : Memref sig .tc .vmem S1x1024 .f32) (harg23 : arg23.IsWhole) (arg24 : Memref sig .tc .vmem S144x1024 .f32) (harg24 : arg24.IsWhole) (arg25 : Memref sig .tc .vmem S640x1024 .bf16) (harg25 : arg25.IsWhole) (arg26 : Memref sig .tc .vmem S128x1024 .f32) (harg26 : arg26.IsWhole) (arg27 : Memref sig .tc .vmem S1024x1024 .f32) (harg27 : arg27.IsWhole) (arg28 : Memref sig .tc .vmem S1032x128 .f32) (harg28 : arg28.IsWhole) (arg29 : Memref sig .tc .vmem S256x128 .f32) (harg29 : arg29.IsWhole) (arg30 : Memref sig .tc .vmem S256x128 .f32) (harg30 : arg30.IsWhole) (arg31 : Memref sig .tc .smem S32 .i32) (harg31 : arg31.IsWhole) (X_arg2 : S1024x128.Idx → Elt F .bf16) (X_arg3 : S1x1024x128.Idx → Elt F .bf16) (X_arg4 : S1x4x144x256.Idx → Elt F .bf16) (X_arg5 : S16384x128.Idx → Elt F .bf16) (X_arg6 : S32x144x512.Idx → Elt F .bf16) (X_arg7 : S16384x128.Idx → Elt F .bf16) (X_arg8 : S128x144x128.Idx → Elt F .bf16) (X_arg9 : S64x128.Idx → Elt F .f32) (X_arg10 : S1x1x1024.Idx → Elt F .f32) (X_arg11 : S1x16x1024.Idx → Elt F .bf16) (X_arg12 : S512x128.Idx → Elt F .bf16) (X_arg13 : S640x128.Idx → Elt F .bf16) (X_arg14 : S256x128.Idx → Elt F .bf16) :
    Held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 X_arg2 X_arg3 X_arg4 X_arg5 X_arg6 X_arg7 X_arg8 X_arg9 X_arg10 X_arg11 X_arg12 X_arg13 X_arg14
      ⊢ wp frame (wpE (defs₀ (F := F)) Variants.none (c : Thread nD τ) none) Set.univ (cc0_nsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31)
          (fun _ => Held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 X_arg2 X_arg3 X_arg4 X_arg5 X_arg6 X_arg7 X_arg8 X_arg9 X_arg10 X_arg11 X_arg12 X_arg13 X_arg14) := by
  simp only [Gen.cc0_nsa_eq_skeleton]
  unfold Gen.cc0_nsa_skel Held owns
  iintro ⟨⟨%f_arg2, %h_arg2, H_arg2⟩, ⟨%f_arg3, %h_arg3, H_arg3⟩, ⟨%f_arg4, %h_arg4, H_arg4⟩, ⟨%f_arg5, %h_arg5, H_arg5⟩, ⟨%f_arg6, %h_arg6, H_arg6⟩, ⟨%f_arg7, %h_arg7, H_arg7⟩, ⟨%f_arg8, %h_arg8, H_arg8⟩, ⟨%f_arg9, %h_arg9, H_arg9⟩, ⟨%f_arg10, %h_arg10, H_arg10⟩, ⟨%f_arg11, %h_arg11, H_arg11⟩, ⟨%f_arg12, %h_arg12, H_arg12⟩, ⟨%f_arg13, %h_arg13, H_arg13⟩, ⟨%f_arg14, %h_arg14, H_arg14⟩, ⟨%d_arg15, %f_arg15, %h_arg15, H_arg15⟩, ⟨%d_arg16, %f_arg16, %h_arg16, H_arg16⟩, ⟨%d_arg17, %f_arg17, %h_arg17, H_arg17⟩, ⟨%d_arg18, %f_arg18, %h_arg18, H_arg18⟩, ⟨%d_arg19, %f_arg19, %h_arg19, H_arg19⟩, ⟨%d_arg20, %f_arg20, %h_arg20, H_arg20⟩, ⟨%d_arg21, %f_arg21, %h_arg21, H_arg21⟩, ⟨%d_arg22, %f_arg22, %h_arg22, H_arg22⟩, ⟨%d_arg23, %f_arg23, %h_arg23, H_arg23⟩, ⟨%d_arg24, %f_arg24, %h_arg24, H_arg24⟩, ⟨%d_arg25, %f_arg25, %h_arg25, H_arg25⟩, ⟨%d_arg26, %f_arg26, %h_arg26, H_arg26⟩, ⟨%d_arg27, %f_arg27, %h_arg27, H_arg27⟩, ⟨%d_arg28, %f_arg28, %h_arg28, H_arg28⟩, ⟨%d_arg29, %f_arg29, %h_arg29, H_arg29⟩, ⟨%d_arg30, %f_arg30, %h_arg30, H_arg30⟩, ⟨%d_arg31, %f_arg31, %h_arg31, H_arg31⟩⟩
  sl_exec_parts
  by_cases h1 : k0_cond1 i = 1#1 <;> by_cases h2 : k0_cond2 i = 1#1
  all_goals
    sl_exec_parts
    sl_step
    isplitl [H_arg2]
    · iexists _; isplitr
      · ipureintro; exact h_arg2
      · iexact H_arg2
    isplitl [H_arg3]
    · iexists _; isplitr
      · ipureintro; exact h_arg3
      · iexact H_arg3
    isplitl [H_arg4]
    · iexists _; isplitr
      · ipureintro; exact h_arg4
      · iexact H_arg4
    isplitl [H_arg5]
    · iexists _; isplitr
      · ipureintro; exact h_arg5
      · iexact H_arg5
    isplitl [H_arg6]
    · iexists _; isplitr
      · ipureintro; exact h_arg6
      · iexact H_arg6
    isplitl [H_arg7]
    · iexists _; isplitr
      · ipureintro; exact h_arg7
      · iexact H_arg7
    isplitl [H_arg8]
    · iexists _; isplitr
      · ipureintro; exact h_arg8
      · iexact H_arg8
    isplitl [H_arg9]
    · iexists _; isplitr
      · ipureintro; exact h_arg9
      · iexact H_arg9
    isplitl [H_arg10]
    · iexists _; isplitr
      · ipureintro; exact h_arg10
      · iexact H_arg10
    isplitl [H_arg11]
    · iexists _; isplitr
      · ipureintro; exact h_arg11
      · iexact H_arg11
    isplitl [H_arg12]
    · iexists _; isplitr
      · ipureintro; exact h_arg12
      · iexact H_arg12
    isplitl [H_arg13]
    · iexists _; isplitr
      · ipureintro; exact h_arg13
      · iexact H_arg13
    isplitl [H_arg14]
    · iexists _; isplitr
      · ipureintro; exact h_arg14
      · iexact H_arg14
    isplitl [H_arg15]
    · iapply (give c arg15 _); iexact H_arg15
    isplitl [H_arg16]
    · iapply (give c arg16 _); iexact H_arg16
    isplitl [H_arg17]
    · iapply (give c arg17 _); iexact H_arg17
    isplitl [H_arg18]
    · iapply (give c arg18 _); iexact H_arg18
    isplitl [H_arg19]
    · iapply (give c arg19 _); iexact H_arg19
    isplitl [H_arg20]
    · iapply (give c arg20 _); iexact H_arg20
    isplitl [H_arg21]
    · iapply (give c arg21 _); iexact H_arg21
    isplitl [H_arg22]
    · iapply (give c arg22 _); iexact H_arg22
    isplitl [H_arg23]
    · iapply (give c arg23 _); iexact H_arg23
    isplitl [H_arg24]
    · iapply (give c arg24 _); iexact H_arg24
    isplitl [H_arg25]
    · iapply (give c arg25 _); iexact H_arg25
    isplitl [H_arg26]
    · iapply (give c arg26 _); iexact H_arg26
    isplitl [H_arg27]
    · iapply (give c arg27 _); iexact H_arg27
    isplitl [H_arg28]
    · iapply (give c arg28 _); iexact H_arg28
    isplitl [H_arg29]
    · iapply (give c arg29 _); iexact H_arg29
    isplitl [H_arg30]
    · iapply (give c arg30 _); iexact H_arg30
    iapply (give c arg31 _); iexact H_arg31

end Cert.Proof.KernelIdeal

end
-- ==== Proof.NsaIdealLaunch.lean ====
/- The attention program as a whole: its grid of body runs ends, faultless, with every argument unchanged. -/
module

public import proofs.«01_k».proof.Proof.NsaIdealBody
public import proofs.«01_k».proof.Proof.Gen.KernelIdeal.Frame
public import proofs.«01_k».proof.Proof.Gen.KernelIdeal.Points
public import Idealize.ShloMosaic.Lib.Pipeline.FrameBody

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The one window whose contents the frame does not follow: the result's. -/
abbrev forget : Fin cfg0.W → Bool := fun | 0 => false | 1 => false | 2 => false | 3 => false | 4 => false | 5 => false | 6 => false | 7 => false | 8 => false | 9 => false | 10 => false | 11 => false | 12 => false | 13 => true | ⟨_ + 14, h⟩ => absurd h (Nat.not_lt.2 (Nat.le_add_left _ _))

/-- The proof data of the pipeline: each input window keeps its block; between points there is nothing to remember but
    that the scratch buffers are held. -/
def dats (_ : Fin 1) (c : Dev nD) : Dat τ (Elt F) Unit ℕ (UR sig nD τ) ℕ cfg0 c where
  A := fun w => Gen.V m c (Pipeline.arrRef spec0 w)
  after := fun | 0 => Gen.iblk m c 0 | 1 => Gen.iblk m c 1 | 2 => Gen.iblk m c 2 | 3 => Gen.iblk m c 3 | 4 => Gen.iblk m c 4 | 5 => Gen.iblk m c 5 | 6 => Gen.iblk m c 6 | 7 => Gen.iblk m c 7 | 8 => Gen.iblk m c 8 | 9 => Gen.iblk m c 9 | 10 => Gen.iblk m c 10 | 11 => Gen.iblk m c 11 | 12 => Gen.iblk m c 12 | 13 => Pipeline.Dat.unnamed (cfg := cfg0) 13 | ⟨_ + 14, h⟩ => absurd h (Nat.not_lt.2 (Nat.le_add_left _ _))
  Φ := fun _ => Pipeline.ΦA spec0 c
  q := Pipeline.shareOf spec0
  owed := fun _ => 0

theorem dats_A (c : Dev nD) (w : Fin cfg0.W) : (dats m 0 c).A w = Gen.V m c (Pipeline.arrRef spec0 w) := rfl
theorem before_0 (c : Dev nD) (t : Fin cfg0.N) (d) : (dats m 0 c).before 0 t d = Gen.iblk m c 0 t :=
  Gen.before0_0_of m (dats m 0 c) rfl (fun _ => rfl) t d
theorem before_1 (c : Dev nD) (t : Fin cfg0.N) (d) : (dats m 0 c).before 1 t d = Gen.iblk m c 1 t :=
  Gen.before0_1_of m (dats m 0 c) rfl (fun _ => rfl) t d
theorem before_2 (c : Dev nD) (t : Fin cfg0.N) (d) : (dats m 0 c).before 2 t d = Gen.iblk m c 2 t :=
  Gen.before0_2_of m (dats m 0 c) rfl (fun _ => rfl) t d
theorem before_3 (c : Dev nD) (t : Fin cfg0.N) (d) : (dats m 0 c).before 3 t d = Gen.iblk m c 3 t :=
  Gen.before0_3_of m (dats m 0 c) rfl (fun _ => rfl) t d
theorem before_4 (c : Dev nD) (t : Fin cfg0.N) (d) : (dats m 0 c).before 4 t d = Gen.iblk m c 4 t :=
  Gen.before0_4_of m (dats m 0 c) rfl (fun _ => rfl) t d
theorem before_5 (c : Dev nD) (t : Fin cfg0.N) (d) : (dats m 0 c).before 5 t d = Gen.iblk m c 5 t :=
  Gen.before0_5_of m (dats m 0 c) rfl (fun _ => rfl) t d
theorem before_6 (c : Dev nD) (t : Fin cfg0.N) (d) : (dats m 0 c).before 6 t d = Gen.iblk m c 6 t :=
  Gen.before0_6_of m (dats m 0 c) rfl (fun _ => rfl) t d
theorem before_7 (c : Dev nD) (t : Fin cfg0.N) (d) : (dats m 0 c).before 7 t d = Gen.iblk m c 7 t :=
  Gen.before0_7_of m (dats m 0 c) rfl (fun _ => rfl) t d
theorem before_8 (c : Dev nD) (t : Fin cfg0.N) (d) : (dats m 0 c).before 8 t d = Gen.iblk m c 8 t :=
  Gen.before0_8_of m (dats m 0 c) rfl (fun _ => rfl) t d
theorem before_9 (c : Dev nD) (t : Fin cfg0.N) (d) : (dats m 0 c).before 9 t d = Gen.iblk m c 9 t :=
  Gen.before0_9_of m (dats m 0 c) rfl (fun _ => rfl) t d
theorem before_10 (c : Dev nD) (t : Fin cfg0.N) (d) : (dats m 0 c).before 10 t d = Gen.iblk m c 10 t :=
  Gen.before0_10_of m (dats m 0 c) rfl (fun _ => rfl) t d
theorem before_11 (c : Dev nD) (t : Fin cfg0.N) (d) : (dats m 0 c).before 11 t d = Gen.iblk m c 11 t :=
  Gen.before0_11_of m (dats m 0 c) rfl (fun _ => rfl) t d
theorem before_12 (c : Dev nD) (t : Fin cfg0.N) (d) : (dats m 0 c).before 12 t d = Gen.iblk m c 12 t :=
  Gen.before0_12_of m (dats m 0 c) rfl (fun _ => rfl) t d

/-- The held scratch buffers and the generator's register, one by one. -/
theorem scratch_eq (c : Dev nD) :
    (Pipeline.ΦA spec0 c : sProp 𝕄) = iprop(iprop((∃ d, owns (c : Thread nD τ) (Memref.whole cc0_scratch0 : Memref sig .tc _ _ _) fullShare d) ∗ (∃ d, owns (c : Thread nD τ) (Memref.whole cc0_scratch1 : Memref sig .tc _ _ _) fullShare d) ∗ (∃ d, owns (c : Thread nD τ) (Memref.whole cc0_scratch2 : Memref sig .tc _ _ _) fullShare d) ∗ (∃ d, owns (c : Thread nD τ) (Memref.whole cc0_scratch3 : Memref sig .tc _ _ _) fullShare d) ∗ (∃ d, owns (c : Thread nD τ) (Memref.whole cc0_scratch4 : Memref sig .tc _ _ _) fullShare d) ∗ (∃ d, owns (c : Thread nD τ) (Memref.whole cc0_scratch5 : Memref sig .tc _ _ _) fullShare d) ∗ (∃ d, owns (c : Thread nD τ) (Memref.whole cc0_scratch6 : Memref sig .tc _ _ _) fullShare d) ∗ (∃ d, owns (c : Thread nD τ) (Memref.whole cc0_scratch7 : Memref sig .tc _ _ _) fullShare d) ∗ (∃ d, owns (c : Thread nD τ) (Memref.whole cc0_scratch8 : Memref sig .tc _ _ _) fullShare d) ∗ (∃ d, owns (c : Thread nD τ) (Memref.whole cc0_scratch9 : Memref sig .tc _ _ _) fullShare d) ∗ (∃ d, owns (c : Thread nD τ) (Memref.whole cc0_scratch10 : Memref sig .tc _ _ _) fullShare d) ∗ (∃ d, owns (c : Thread nD τ) (Memref.whole cc0_scratch11 : Memref sig .tc _ _ _) fullShare d) ∗ (∃ d, owns (c : Thread nD τ) (Memref.whole cc0_scratch12 : Memref sig .tc _ _ _) fullShare d) ∗ (∃ d, owns (c : Thread nD τ) (Memref.whole cc0_scratch13 : Memref sig .tc _ _ _) fullShare d) ∗ (∃ d, owns (c : Thread nD τ) (Memref.whole cc0_scratch14 : Memref sig .tc _ _ _) fullShare d) ∗ (∃ d, owns (c : Thread nD τ) (Memref.whole cc0_scratch15 : Memref sig .tc _ _ _) fullShare d)) ∗ (∃ r, prngReg c r)) := by
  unfold Pipeline.ΦA; rw [Gen.scopedRest0_eq]; simp only [owns_whole]; try rfl

/-- What a point holds before its body runs, window by window. -/
def before (c : Dev nD) (t : Fin cfg0.N) : sProp 𝕄 :=
  iprop(Pipeline.ΦA spec0 c ∗ (dats m 0 c).owesAt () t.castSucc ∗ (∃ d, owns (c : Thread nD τ) (Gen.st0_0 t) fullShare ((dats m 0 c).before 0 t d)) ∗ (∃ d, owns (c : Thread nD τ) (Gen.st0_1 t) fullShare ((dats m 0 c).before 1 t d)) ∗ (∃ d, owns (c : Thread nD τ) (Gen.st0_2 t) fullShare ((dats m 0 c).before 2 t d)) ∗ (∃ d, owns (c : Thread nD τ) (Gen.st0_3 t) fullShare ((dats m 0 c).before 3 t d)) ∗ (∃ d, owns (c : Thread nD τ) (Gen.st0_4 t) fullShare ((dats m 0 c).before 4 t d)) ∗ (∃ d, owns (c : Thread nD τ) (Gen.st0_5 t) fullShare ((dats m 0 c).before 5 t d)) ∗ (∃ d, owns (c : Thread nD τ) (Gen.st0_6 t) fullShare ((dats m 0 c).before 6 t d)) ∗ (∃ d, owns (c : Thread nD τ) (Gen.st0_7 t) fullShare ((dats m 0 c).before 7 t d)) ∗ (∃ d, owns (c : Thread nD τ) (Gen.st0_8 t) fullShare ((dats m 0 c).before 8 t d)) ∗ (∃ d, owns (c : Thread nD τ) (Gen.st0_9 t) fullShare ((dats m 0 c).before 9 t d)) ∗ (∃ d, owns (c : Thread nD τ) (Gen.st0_10 t) fullShare ((dats m 0 c).before 10 t d)) ∗ (∃ d, owns (c : Thread nD τ) (Gen.st0_11 t) fullShare ((dats m 0 c).before 11 t d)) ∗ (∃ d, owns (c : Thread nD τ) (Gen.st0_12 t) fullShare ((dats m 0 c).before 12 t d)) ∗ (∃ X, owns (c : Thread nD τ) (Gen.st0_13 t) fullShare X))
/-- What a point holds after its body has run. -/
def after (c : Dev nD) (t : Fin cfg0.N) : sProp 𝕄 :=
  iprop(Pipeline.ΦA spec0 c ∗ (dats m 0 c).owesAt () t.succ ∗ owns (c : Thread nD τ) (Gen.st0_0 t) fullShare ((dats m 0 c).after 0 t) ∗ owns (c : Thread nD τ) (Gen.st0_1 t) fullShare ((dats m 0 c).after 1 t) ∗ owns (c : Thread nD τ) (Gen.st0_2 t) fullShare ((dats m 0 c).after 2 t) ∗ owns (c : Thread nD τ) (Gen.st0_3 t) fullShare ((dats m 0 c).after 3 t) ∗ owns (c : Thread nD τ) (Gen.st0_4 t) fullShare ((dats m 0 c).after 4 t) ∗ owns (c : Thread nD τ) (Gen.st0_5 t) fullShare ((dats m 0 c).after 5 t) ∗ owns (c : Thread nD τ) (Gen.st0_6 t) fullShare ((dats m 0 c).after 6 t) ∗ owns (c : Thread nD τ) (Gen.st0_7 t) fullShare ((dats m 0 c).after 7 t) ∗ owns (c : Thread nD τ) (Gen.st0_8 t) fullShare ((dats m 0 c).after 8 t) ∗ owns (c : Thread nD τ) (Gen.st0_9 t) fullShare ((dats m 0 c).after 9 t) ∗ owns (c : Thread nD τ) (Gen.st0_10 t) fullShare ((dats m 0 c).after 10 t) ∗ owns (c : Thread nD τ) (Gen.st0_11 t) fullShare ((dats m 0 c).after 11 t) ∗ owns (c : Thread nD τ) (Gen.st0_12 t) fullShare ((dats m 0 c).after 12 t) ∗ (∃ X, owns (c : Thread nD τ) (Gen.st0_13 t) fullShare X))

set_option maxHeartbeats 2000000 in
/-- The body at a grid point. -/
theorem sound (c : Dev nD) (t : Fin cfg0.N) :
    before m c t ⊢ wp frame (wpE (defs₀ (F := F)) Variants.none (c : Thread nD τ) none) Set.univ (Gen.bodyAt0 t) (fun _ => after m c t) := by
  unfold before after Gen.bodyAt0
  rw [scratch_eq, show (dats m 0 c).owesAt () t.succ = (dats m 0 c).owesAt () t.castSucc from rfl]
  simp only [before_0, before_1, before_2, before_3, before_4, before_5, before_6, before_7, before_8, before_9, before_10, before_11, before_12]
  iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
  iapply (wp_wand_r Idealize.ShloMosaic.frame (wpE (defs₀ (F := F)) Variants.none (c : Thread nD τ) none) Set.univ)
  isplitl [H0 H1 H2 H3 H4 H5 H6 H7 H8 H9 H10 H11 H12 H13 HS0 HS1 HS2 HS3 HS4 HS5 HS6 HS7 HS8 HS9 HS10 HS11 HS12 HS13 HS14 HS15]
  · iapply (body (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t))
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  · iintro %_ H
    unfold Held
    icases H with ⟨H0, H1, H2, H3, H4, H5, H6, H7, H8, H9, H10, H11, H12, H13, HS0, HS1, HS2, HS3, HS4, HS5, HS6, HS7, HS8, HS9, HS10, HS11, HS12, HS13, HS14, HS15⟩
    isplitl [HS0 HS1 HS2 HS3 HS4 HS5 HS6 HS7 HS8 HS9 HS10 HS11 HS12 HS13 HS14 HS15 Hg]
    · isplitl [HS0 HS1 HS2 HS3 HS4 HS5 HS6 HS7 HS8 HS9 HS10 HS11 HS12 HS13 HS14 HS15]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        iexact HS15
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at a point is the body as spelt above. -/
theorem row (t : Fin cfg0.N) : defs₀ (F := F) .tc cfg0.body (cfg0.bodyArgs t (cfg0.slots t)) = Gen.bodyAt0 t := by
  unfold defs₀; rw [Defs.onTc_tc]

/-- The library's body obligation, at every point. -/
theorem obligation (c : Dev nD) : BodyObligation (dats (F := F) m 0 c) (defs₀ (F := F)) Variants.none () Set.univ forget := fun t => by
  rw [Gen.bigSep_W0, Gen.bigSep_W0, row]
  exact triple_restated (sound m c t) rfl .rfl fun _ => .rfl

/-- THE FRAME: the attention program runs, ends with its twelve arguments unchanged and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  have h := Pipeline.θ_run_frame_forget_shared cfgs (dats (F := F) m) 0 Gen.launch₀0 defs₀ Variants.none forget m ρ main
    (hbody := fun c => (obligation m c).loose) (hq := fun _ _ _ => rfl) (howed := fun _ _ => rfl) (V := Gen.V m)
    (hmain := Gen.hmain m Variants.none) (hA := dats_A m) (hΦ := fun _ _ => rfl)
    (Q' := fun r => Pipeline.RDat.FramePost cfg0 (fun c => (dats m 0 c).toRForget forget) (Gen.V m) r ∧ r.2.sem = fun _ => 0)
    (hQ' := fun _ h => h)
  refine (θ_run defs _ _).mono (fun r h => ⟨fun c => ?_, h.2⟩) h
  have key : ∀ w : Fin cfg0.W, (cfg0.win w).isOut = false → _ := fun w hw => h.1.arr_in c w hw
  exact ⟨key 0 rfl, key 5 rfl, key 1 rfl, key 2 rfl, key 4 rfl, key 6 rfl, key 7 rfl, key 8 rfl, key 9 rfl, key 10 rfl, key 11 rfl, key 12 rfl⟩

end Cert.Proof.KernelIdeal

end
-- ==== Proof.Nsa.lean ====
/- What is claimed of the attention program: it runs, on machine words and on extended reals, leaves its arguments, and
   every counter is back at zero. -/
module

public import proofs.«01_k».proof.Defs
public import proofs.«01_k».proof.Proof.NsaLaunch
public import proofs.«01_k».proof.Proof.NsaIdealLaunch

@[expose] public section

noncomputable section

namespace Cert.Proof.Nsa

open Idealize.ShloMosaic

theorem frame_kernel : Cert.quiescent_Kernel := fun m ρ _ => Cert.Proof.Kernel.frame m ρ

theorem frame_ideal : Cert.quiescent_KernelIdeal := fun m ρ _ => Cert.Proof.KernelIdeal.frame m ρ

end Cert.Proof.Nsa

end
-- ==== Proof.ProjValue.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Proof.Proj

open Cert.Kernel2Ideal Cert.Kernel2Ideal.Gen Idealize.ShloMosaic Idealize.ShloMosaic.TcCoe Idealize.SL.Sem
open Idealize.ShloMosaic.Pipeline (Dat)

/-- The product of `h` and `w` at an index: the sum over the 2048 columns of `h`. -/
def product (h : FVec Ideal S16384x2048 .bf16) (w : FVec Ideal S2048x5120 .bf16) : FVec Ideal S16384x5120 .bf16 :=
  fun i => ∑ k : Fin 2048, h (ix2 (i 0) k) * w (ix2 k (i 1))

/-- What the body stores of its two blocks, at an index: the product of the blocks. -/
theorem pay_apply (x : Vec Ideal S1024x2048 .bf16) (w : Vec Ideal S2048x1024 .bf16) (y : S1024x1024.Idx) :
    k0_pay1 x w y = ∑ k : Fin 2048, x (ix2 (y 0) k) * w (ix2 k (y 1)) := by
  pointwise [k0_pay1]

/-- What the reference computes, at an index. -/
theorem ref_eq [Cert.Reference2Ideal.Facts] (h : FVec Ideal S16384x2048 .bf16) (w : FVec Ideal S2048x5120 .bf16) :
    truncf .bf16 (Host.dotGeneral (F := Ideal) Cert.Reference2Ideal.dot_S16384x2048_S2048x5120_S16384x5120_1_0_0_1_n_n none
      (extf .f32 h (by decide)) (extf .f32 w (by decide))) (by decide) = product h w := by
  funext i
  pointwise [product]

theorem idx0 : ∀ t : Fin cfg0.N, win0_0.index t = ![win0_2.index t 0, 0] :=
  (by decide +kernel : ∀ t : Fin grid0.N, _)
theorem idx1 : ∀ t : Fin cfg0.N, win0_1.index t = ![0, win0_2.index t 1] :=
  (by decide +kernel : ∀ t : Fin grid0.N, _)

variable (m : (ℓ : Loc nD τ sig) → Buf (Elt Ideal) ℓ)

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  unfold product
  show (_ : EReal) = _
  refine Finset.sum_congr rfl fun k _ => ?_
  blk_simp [iblk]
  congr 2
  · blk_ext [idx0 t]
  · blk_ext [idx1 t]

end Cert.Proof.Proj
end
-- ==== Proof.Proj.lean ====
/- The claims on the projection `proj_rm`: it runs and leaves its arguments, and it computes what its reference computes. -/
module

public import proofs.«01_k».proof.Defs
public import proofs.«01_k».proof.Proof.ProjValue
public import proofs.«01_k».proof.Proof.Gen.Kernel2.Frame

@[expose] public section

set_option maxRecDepth 16384

noncomputable section

namespace Cert.Proof.Proj

open Idealize.ShloMosaic Idealize.ShloMosaic.TcCoe Idealize.SL.Sem

/-- The reference's run: its results are `product` of its arguments, which it leaves as they were. -/
theorem ref_run (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v3) = product (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) :=
  (θ_run _ _ _).mono (fun r h c => ⟨(h c).1.trans (by funext i; rw [eq_ix2 i]; pointwise [product]),
      (h c).2⟩)
    (Cert.Reference2Ideal.Value.run m ρ)

/-- The reference runs and leaves its arguments; it has no counter. -/
theorem frame_ref : Cert.quiescent_Reference2Ideal := fun m ρ _ =>
  (θ_run _ _ _).mono (fun r h => ⟨fun c => (h c).2, sem_eq_zero_of_no_sems (by decide) r.2⟩) (ref_run m ρ)

/-- The kernel runs on machine words, leaves its arguments, and every counter is back at zero. -/
theorem frame_kernel : Cert.quiescent_Kernel2 := fun m ρ _ => Cert.Kernel2.Gen.frame m ρ

/-- The same on extended reals. -/
theorem frame_ideal : Cert.quiescent_Kernel2Ideal := fun m ρ _ => Cert.Kernel2Ideal.Gen.frame m ρ

/-- Kernel and reference, from the same arguments, end with the same results on extended reals. -/
theorem algebraic : Cert.algebraic_Kernel2Ideal_Reference2Ideal := by
  intro m ρ m' ρ' _ hag
  refine ⟨fun c => product (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run _ _ _).mono (fun r h c => ⟨(h c).1.trans (final m c),
      (h c).2⟩)
      (Cert.Kernel2Ideal.Value.run_blocks m ρ)
  · refine (θ_run _ _ _).mono (fun r h c => ?_) (ref_run m' ρ')
    obtain ⟨e0, e1⟩ := hag c
    exact ⟨(h c).1.trans (by rw [e0, e1]),
      (h c).2⟩

end Cert.Proof.Proj
end
-- ==== Proof.DownValue.lean ====
/- What the call `ffn_down` computes: the residual plus the gated down projection. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Proof.Down

open Cert.Kernel3Ideal Cert.Kernel3Ideal.Gen Idealize.ShloMosaic Idealize.ShloMosaic.TcCoe Idealize.SL.Sem
open Idealize.ShloMosaic.Pipeline (Dat)

/-- The residual `x1` plus the gate (columns 10240 to 12287 of row 0 of `ada`) times the product of `act` and `w`. -/
def result (act : FVec Ideal S16384x5632 .bf16) (w : FVec Ideal S5632x2048 .bf16) (x1 : FVec Ideal S16384x2048 .f32)
    (ada : FVec Ideal S8x12288 .f32) : FVec Ideal S16384x2048 .f32 :=
  fun i => x1 i + ada (ix2 0 ⟨10240 + (i 1).val, by have := (i 1).isLt; simp at this; omega⟩)
    * ∑ k : Fin 5632, act (ix2 (i 0) k) * w (ix2 k (i 1))

/-- What the body stores of its four blocks, at an index. -/
theorem pay_apply (x : Vec Ideal S1024x5632 .bf16) (w : Vec Ideal S5632x512 .bf16) (r : Vec Ideal S1024x512 .f32)
    (g : Vec Ideal S1x512 .f32) (y : S1024x512.Idx) :
    k0_pay1 x w r g y = r y + g (ix2 0 (y 1)) * ∑ k : Fin 5632, x (ix2 (y 0) k) * w (ix2 k (y 1)) := by
  pointwise [k0_pay1]

theorem idx0 : ∀ t : Fin cfg0.N, win0_0.index t = ![win0_4.index t 0, 0] :=
  (by decide +kernel : ∀ t : Fin grid0.N, _)
theorem idx1 : ∀ t : Fin cfg0.N, win0_1.index t = ![0, win0_4.index t 1] :=
  (by decide +kernel : ∀ t : Fin grid0.N, _)
theorem idx2 : ∀ t : Fin cfg0.N, win0_2.index t = ![win0_4.index t 0, win0_4.index t 1] :=
  (by decide +kernel : ∀ t : Fin grid0.N, _)
theorem idx3 : ∀ t : Fin cfg0.N, win0_3.index t = ![0, 20 + win0_4.index t 1] :=
  (by decide +kernel : ∀ t : Fin grid0.N, _)

variable (m : (ℓ : Loc nD τ sig) → Buf (Elt Ideal) ℓ)

/-- The result array after the run is `result` of the argument arrays. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_apply]
  unfold result
  show (_ : EReal) = _
  refine congrArg₂ (· + ·) ?_ (congrArg₂ (· * ·) ?_ (Finset.sum_congr rfl fun k _ => ?_))
  · blk_simp [iblk]
    congr 1
    blk_ext [idx2 t]
  · pointwise [r0_3]
    blk_simp [iblk]
    congr 1
    blk_ext [idx3 t]
  · blk_simp [iblk]
    congr 2
    · blk_ext [idx0 t]
    · blk_ext [idx1 t]

end Cert.Proof.Down
end
-- ==== Proof.Down.lean ====
/- The claims on the projection `ffn_down`: it runs and leaves its arguments, and it computes what its reference computes. -/
module

public import proofs.«01_k».proof.Defs
public import proofs.«01_k».proof.Proof.DownValue
public import proofs.«01_k».proof.Proof.Gen.Kernel3.Frame

@[expose] public section

set_option maxRecDepth 16384

noncomputable section

namespace Cert.Proof.Down

open Idealize.ShloMosaic Idealize.ShloMosaic.TcCoe Idealize.SL.Sem

/-- The reference's run: its results are `result` of its arguments, which it leaves as they were. -/
theorem ref_run (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v6) = result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3) :=
  (θ_run _ _ _).mono (fun r h c => ⟨(h c).1.trans (by funext i; rw [eq_ix2 i]; pointwise [result]),
      (h c).2⟩)
    (Cert.Reference3Ideal.Value.run m ρ)

/-- The reference runs and leaves its arguments; it has no counter. -/
theorem frame_ref : Cert.quiescent_Reference3Ideal := fun m ρ _ =>
  (θ_run _ _ _).mono (fun r h => ⟨fun c => (h c).2, sem_eq_zero_of_no_sems (by decide) r.2⟩) (ref_run m ρ)

/-- The kernel runs on machine words, leaves its arguments, and every counter is back at zero. -/
theorem frame_kernel : Cert.quiescent_Kernel3 := fun m ρ _ => Cert.Kernel3.Gen.frame m ρ

/-- The same on extended reals. -/
theorem frame_ideal : Cert.quiescent_Kernel3Ideal := fun m ρ _ => Cert.Kernel3Ideal.Gen.frame m ρ

/-- Kernel and reference, from the same arguments, end with the same results on extended reals. -/
theorem algebraic : Cert.algebraic_Kernel3Ideal_Reference3Ideal := by
  intro m ρ m' ρ' _ hag
  refine ⟨fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · exact (θ_run _ _ _).mono (fun r h c => ⟨(h c).1.trans (final m c),
      (h c).2⟩)
      (Cert.Kernel3Ideal.Value.run_blocks m ρ)
  · refine (θ_run _ _ _).mono (fun r h c => ?_) (ref_run m' ρ')
    obtain ⟨e0, e1, e2, e3⟩ := hag c
    exact ⟨(h c).1.trans (by rw [e0, e1, e2, e3]),
      (h c).2⟩

end Cert.Proof.Down
end
-- ==== Proof.GluValue.lean ====
/- What the call `proj_glu` computes: the gated linear unit of the projected rows. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Proof.Glu

open Cert.Kernel4Ideal Cert.Kernel4Ideal.Gen Idealize.ShloMosaic Idealize.ShloMosaic.TcCoe Idealize.SL.Sem
open Idealize.ShloMosaic.Pipeline (Dat)

/-- The logistic function of an extended real, as both programs compute it. -/
def sigmoid (x : EReal) : EReal := Ideal.div 1 (1 + Ideal.exp (-x))

/-- Column `i` of the projection times the logistic function of column `2048 + i`. -/
def result (h : FVec Ideal S16384x2048 .bf16) (w : FVec Ideal S2048x4096 .bf16) : FVec Ideal S16384x2048 .bf16 :=
  fun i => (∑ k : Fin 2048, h (ix2 (i 0) k) * w (ix2 k ⟨(i 1).val, by have := (i 1).isLt; simp at this; omega⟩))
    * sigmoid (∑ k : Fin 2048, h (ix2 (i 0) k) * w (ix2 k ⟨2048 + (i 1).val, by have := (i 1).isLt; simp at this; omega⟩))

/-- What the body stores of its three blocks, at an index. -/
theorem pay_apply (x : Vec Ideal S1024x2048 .bf16) (w g : Vec Ideal S2048x512 .bf16) (y : S1024x512.Idx) :
    k0_pay1 x w g y = (∑ k : Fin 2048, x (ix2 (y 0) k) * w (ix2 k (y 1)))
      * sigmoid (∑ k : Fin 2048, x (ix2 (y 0) k) * g (ix2 k (y 1))) := by
  pointwise [k0_pay1, sigmoid]
  rw [sub_eq_add_neg, zero_add]

theorem idx0 : ∀ t : Fin cfg0.N, win0_0.index t = ![win0_3.index t 0, 0] :=
  (by decide +kernel : ∀ t : Fin grid0.N, _)
theorem idx1 : ∀ t : Fin cfg0.N, win0_1.index t = ![0, win0_3.index t 1] :=
  (by decide +kernel : ∀ t : Fin grid0.N, _)
theorem idx2 : ∀ t : Fin cfg0.N, win0_2.index t = ![0, 4 + win0_3.index t 1] :=
  (by decide +kernel : ∀ t : Fin grid0.N, _)

variable (m : (ℓ : Loc nD τ sig) → Buf (Elt Ideal) ℓ)

/-- The result array after the run is `result` of the argument arrays. -/
theorem final (c : Dev nD) : (dats m 0 c).arrAt 3 cfg0.N
    = result (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [pay_apply]
  unfold result
  show (_ : EReal) = _
  refine congrArg₂ (· * ·) (Finset.sum_congr rfl fun k _ => ?_) (congrArg sigmoid (Finset.sum_congr rfl fun k _ => ?_))
  · blk_simp [iblk]
    congr 2
    · blk_ext [idx0 t]
    · blk_ext [idx1 t]
  · blk_simp [iblk]
    congr 2
    · blk_ext [idx0 t]
    · blk_ext [idx2 t]

end Cert.Proof.Glu
end
-- ==== Proof.Glu.lean ====
/- The claims on the gated projection `proj_glu`: it runs and leaves its arguments, and it computes what its reference computes. -/
module

public import proofs.«01_k».proof.Defs
public import proofs.«01_k».proof.Proof.GluValue
public import proofs.«01_k».proof.Proof.Gen.Kernel4.Frame

@[expose] public section

set_option maxRecDepth 16384

noncomputable section

namespace Cert.Proof.Glu

open Idealize.ShloMosaic Idealize.ShloMosaic.TcCoe Idealize.SL.Sem

/-- The reference's run: its results are `result` of its arguments, which it leaves as they were. -/
theorem ref_run (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v12) = result (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) :=
  (θ_run _ _ _).mono (fun r h c => ⟨(h c).1.trans (by funext i; rw [eq_ix2 i]; pointwise [result, sigmoid]),
      (h c).2⟩)
    (Cert.Reference4Ideal.Value.run m ρ)

/-- The reference runs and leaves its arguments; it has no counter. -/
theorem frame_ref : Cert.quiescent_Reference4Ideal := fun m ρ _ =>
  (θ_run _ _ _).mono (fun r h => ⟨fun c => (h c).2, sem_eq_zero_of_no_sems (by decide) r.2⟩) (ref_run m ρ)

/-- The kernel runs on machine words, leaves its arguments, and every counter is back at zero. -/
theorem frame_kernel : Cert.quiescent_Kernel4 := fun m ρ _ => Cert.Kernel4.Gen.frame m ρ

/-- The same on extended reals. -/
theorem frame_ideal : Cert.quiescent_Kernel4Ideal := fun m ρ _ => Cert.Kernel4Ideal.Gen.frame m ρ

/-- Kernel and reference, from the same arguments, end with the same results on extended reals. -/
theorem algebraic : Cert.algebraic_Kernel4Ideal_Reference4Ideal := by
  intro m ρ m' ρ' _ hag
  refine ⟨fun c => result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun r h c => ⟨(h c).1.trans (final m c),
      (h c).2⟩)
      (Cert.Kernel4Ideal.Value.run_blocks m ρ)
  · refine (θ_run _ _ _).mono (fun r h c => ?_) (ref_run m' ρ')
    obtain ⟨e0, e1⟩ := hag c
    exact ⟨(h c).1.trans (by rw [e0, e1]),
      (h c).2⟩

end Cert.Proof.Glu
end
-- ==== Proof.MergeValue.lean ====
/- What the call `merge` computes: the two branches, each projected and weighted by its gate. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Proof.Merge

open Cert.Kernel5Ideal Cert.Kernel5Ideal.Gen Idealize.ShloMosaic Idealize.ShloMosaic.TcCoe Idealize.SL.Sem
open Idealize.ShloMosaic.Pipeline (Dat)

/-- The logistic function of an extended real, as both programs compute it. -/
def sigmoid (x : EReal) : EReal := Ideal.div 1 (1 + Ideal.exp (-x))

/-- The attention's projection and the convolution's (with its bias), each times the logistic function of its gate:
    columns 1024 to 3071 and 3072 to 5119 of `p`. -/
def result (o : FVec Ideal S16384x2048 .bf16) (wo : FVec Ideal S2048x2048 .bf16) (u : FVec Ideal S16384x2048 .bf16)
    (wu : FVec Ideal S2048x2048 .bf16) (b : FVec Ideal S2048 .f32) (p : FVec Ideal S16384x5120 .bf16) : FVec Ideal S16384x2048 .bf16 :=
  fun i => sigmoid (p (ix2 (i 0) ⟨1024 + (i 1).val, by have := (i 1).isLt; simp at this; omega⟩))
      * (∑ k : Fin 2048, o (ix2 (i 0) k) * wo (ix2 k (i 1)))
    + sigmoid (p (ix2 (i 0) ⟨3072 + (i 1).val, by have := (i 1).isLt; simp at this; omega⟩))
      * ((∑ k : Fin 2048, u (ix2 (i 0) k) * wu (ix2 k (i 1))) + b (ix1 (i 1)))

/-- What the body stores of its seven blocks, at an index. -/
theorem pay_apply (x : Vec Ideal S512x2048 .bf16) (w : Vec Ideal S2048x1024 .bf16) (x' : Vec Ideal S512x2048 .bf16)
    (w' : Vec Ideal S2048x1024 .bf16) (b : Vec Ideal S1x1024 .f32) (g g' : Vec Ideal S512x1024 .bf16) (y : S512x1024.Idx) :
    k0_pay1 x w x' w' b g g' y
      = sigmoid (g y) * (∑ k : Fin 2048, x (ix2 (y 0) k) * w (ix2 k (y 1)))
        + sigmoid (g' y) * ((∑ k : Fin 2048, x' (ix2 (y 0) k) * w' (ix2 k (y 1))) + b (ix2 0 (y 1))) := by
  pointwise [k0_pay1, sigmoid]
  simp only [sub_eq_add_neg, zero_add]

theorem idx0 : ∀ t : Fin cfg0.N, win0_0.index t = ![win0_7.index t 0, 0] :=
  (by decide +kernel : ∀ t : Fin grid0.N, _)
theorem idx1 : ∀ t : Fin cfg0.N, win0_1.index t = ![0, win0_7.index t 1] :=
  (by decide +kernel : ∀ t : Fin grid0.N, _)
theorem idx2 : ∀ t : Fin cfg0.N, win0_2.index t = ![win0_7.index t 0, 0] :=
  (by decide +kernel : ∀ t : Fin grid0.N, _)
theorem idx3 : ∀ t : Fin cfg0.N, win0_3.index t = ![0, win0_7.index t 1] :=
  (by decide +kernel : ∀ t : Fin grid0.N, _)
theorem idx4 : ∀ t : Fin cfg0.N, win0_4.index t = ![0, win0_7.index t 1] :=
  (by decide +kernel : ∀ t : Fin grid0.N, _)
theorem idx5 : ∀ t : Fin cfg0.N, win0_5.index t = ![win0_7.index t 0, 1 + win0_7.index t 1] :=
  (by decide +kernel : ∀ t : Fin grid0.N, _)
theorem idx6 : ∀ t : Fin cfg0.N, win0_6.index t = ![win0_7.index t 0, 3 + win0_7.index t 1] :=
  (by decide +kernel : ∀ t : Fin grid0.N, _)

variable (m : (ℓ : Loc nD τ sig) → Buf (Elt Ideal) ℓ)

/-- The bias as the call finds it: the argument as one row. -/
theorem row_eq (c : Dev nD) (j : S1x2048.Idx) : V m c main_v0 j = m ((c : Thread nD τ).loc main_arg4) (ix1 (j 1)) := by
  have h : V m c main_v0 = shapeCast S1x2048 (m ((c : Thread nD τ).loc main_arg4)) shapeCasts_S2048_S1x2048 := by
    unfold V
    after_results
    rfl
  rw [h]
  pointwise

/-- The result array after the run is `result` of the argument arrays. -/
theorem final (c : Dev nD) : (dats m 0 c).arrAt 7 cfg0.N
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  blk_simp
  rw [after0_7]
  frame_out
  rw [pay_apply]
  unfold result
  show (_ : EReal) = _
  refine congrArg₂ (· + ·)
    (congrArg₂ (· * ·) (congrArg sigmoid ?_) (Finset.sum_congr rfl fun k _ => ?_))
    (congrArg₂ (· * ·) (congrArg sigmoid ?_) (congrArg₂ (· + ·) (Finset.sum_congr rfl fun k _ => ?_) ?_))
  · blk_simp [iblk]
    congr 1
    blk_ext [idx5 t]
  · blk_simp [iblk]
    congr 2
    · blk_ext [idx0 t]
    · blk_ext [idx1 t]
  · blk_simp [iblk]
    congr 1
    blk_ext [idx6 t]
  · blk_simp [iblk]
    congr 2
    · blk_ext [idx2 t]
    · blk_ext [idx3 t]
  · blk_simp [iblk]
    rw [row_eq]
    congr 2
    blk_ext [idx4 t]

end Cert.Proof.Merge
end
-- ==== Proof.Merge.lean ====
/- The claims on the merge of the two branches: it runs and leaves its arguments, and it computes what its reference computes. -/
module

public import proofs.«01_k».proof.Defs
public import proofs.«01_k».proof.Proof.MergeValue
public import proofs.«01_k».proof.Proof.Gen.Kernel5.Frame

@[expose] public section

set_option maxRecDepth 16384

noncomputable section

namespace Cert.Proof.Merge

open Idealize.ShloMosaic Idealize.ShloMosaic.TcCoe Idealize.SL.Sem

/-- The reference's run: its results are `result` of its arguments, which it leaves as they were. -/
theorem ref_run (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ fun r => ∀ c : Dev Cert.Reference5Ideal.nD,
      r.2.mem ((c.tc : Thread Cert.Reference5Ideal.nD Cert.Reference5Ideal.τ).loc Cert.Reference5Ideal.main_v28) = result (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5) :=
  (θ_run _ _ _).mono (fun r h c => ⟨(h c).1.trans (by funext i; rw [eq_ix2 i]; pointwise [result, sigmoid]),
      (h c).2⟩)
    (Cert.Reference5Ideal.Value.run m ρ)

/-- The reference runs and leaves its arguments; it has no counter. -/
theorem frame_ref : Cert.quiescent_Reference5Ideal := fun m ρ _ =>
  (θ_run _ _ _).mono (fun r h => ⟨fun c => (h c).2, sem_eq_zero_of_no_sems (by decide) r.2⟩) (ref_run m ρ)

/-- The kernel runs on machine words, leaves its arguments, and every counter is back at zero. -/
theorem frame_kernel : Cert.quiescent_Kernel5 := fun m ρ _ => Cert.Kernel5.Gen.frame m ρ

/-- The same on extended reals. -/
theorem frame_ideal : Cert.quiescent_Kernel5Ideal := fun m ρ _ => Cert.Kernel5Ideal.Gen.frame m ρ

/-- Kernel and reference, from the same arguments, end with the same results on extended reals. -/
theorem algebraic : Cert.algebraic_Kernel5Ideal_Reference5Ideal := by
  intro m ρ m' ρ' _ hag
  refine ⟨fun c => result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)), ?_, ?_⟩
  · exact (θ_run _ _ _).mono (fun r h c => ⟨(h c).1.trans (final m c),
      (h c).2⟩)
      (Cert.Kernel5Ideal.Value.run_blocks m ρ)
  · refine (θ_run _ _ _).mono (fun r h c => ?_) (ref_run m' ρ')
    obtain ⟨e0, e1, e2, e3, e4, e5⟩ := hag c
    exact ⟨(h c).1.trans (by rw [e0, e1, e2, e3, e4, e5]),
      (h c).2⟩

end Cert.Proof.Merge
end
-- ==== Proof.OutNormValue.lean ====
/- What the call `out_proj_norm` computes: the residual plus the gated projection, and its modulated norm. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Proof.OutNorm

open Cert.Kernel6Ideal Cert.Kernel6Ideal.Gen Idealize.ShloMosaic Idealize.ShloMosaic.TcCoe Idealize.SL.Sem
open Idealize.ShloMosaic.Pipeline (Dat)

/-- The residual stream: `x` plus the gate (columns 4096 to 6143 of row 0 of `ada`) times the product of `a` and `w`. -/
def residual (a : FVec Ideal S16384x2048 .bf16) (w : FVec Ideal S2048x2048 .bf16) (x : FVec Ideal S16384x2048 .f32)
    (ada : FVec Ideal S8x12288 .f32) : FVec Ideal S16384x2048 .f32 :=
  fun i => x i + ada (ix2 0 ⟨4096 + (i 1).val, by have := (i 1).isLt; simp at this; omega⟩) * ∑ k : Fin 2048, a (ix2 (i 0) k) * w (ix2 k (i 1))

/-- The root mean square norm of a row `r` at column `j`, with gain `g`, scale `sc` and shift `sh`. -/
def norm (r : Fin 2048 → EReal) (g sc sh : EReal) (j : Fin 2048) : EReal :=
  r j * Ideal.rsqrt (Ideal.div (∑ k : Fin 2048, r k * r k) (Ideal.ofBits .f32 0x45000000#32) + Ideal.ofBits .f32 0x358637BD#32)
    * g * (1 + sc) + sh

/-- The modulated norm of the residual stream: scale in columns 8192 to 10239 of row 0 of `ada`, shift in 6144 to 8191. -/
def normed (a : FVec Ideal S16384x2048 .bf16) (w : FVec Ideal S2048x2048 .bf16) (x : FVec Ideal S16384x2048 .f32)
    (ada : FVec Ideal S8x12288 .f32) (g : FVec Ideal S2048 .f32) : FVec Ideal S16384x2048 .bf16 :=
  fun i => norm (fun k => residual a w x ada (ix2 (i 0) k)) (g (ix1 (i 1))) (ada (ix2 0 ⟨8192 + (i 1).val, by have := (i 1).isLt; simp at this; omega⟩))
    (ada (ix2 0 ⟨6144 + (i 1).val, by have := (i 1).isLt; simp at this; omega⟩)) (i 1)

/-- What the body stores in its first result, at an index. -/
theorem pay1_apply (a : Vec Ideal S512x2048 .bf16) (w : Vec Ideal S2048x2048 .bf16) (x : Vec Ideal S512x2048 .f32)
    (g : Vec Ideal S1x2048 .f32) (y : S512x2048.Idx) :
    k0_pay1 a w x g y = x y + g (ix2 0 (y 1)) * ∑ k : Fin 2048, a (ix2 (y 0) k) * w (ix2 k (y 1)) := by
  pointwise [k0_pay1]

/-- What the body stores in its second result, at an index: the norm of its first. -/
theorem pay2_apply (a : Vec Ideal S512x2048 .bf16) (w : Vec Ideal S2048x2048 .bf16) (x : Vec Ideal S512x2048 .f32)
    (g n sc sh : Vec Ideal S1x2048 .f32) (y : S512x2048.Idx) :
    k0_pay2 a w x g n sc sh y
      = norm (fun k => k0_pay1 a w x g (ix2 (y 0) k)) (n (ix2 0 (y 1))) (sc (ix2 0 (y 1))) (sh (ix2 0 (y 1))) (y 1) := by
  rw [eq_ix2 y]
  pointwise [k0_pay2, norm]

theorem idx0 : ∀ t : Fin cfg0.N, win0_0.index t = ![win0_7.index t 0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![win0_7.index t 0, 0] :=
  (by decide +kernel : ∀ t : Fin grid0.N, _)
theorem idx3 : ∀ t : Fin cfg0.N, win0_3.index t = ![0, 2] :=
  (by decide +kernel : ∀ t : Fin grid0.N, _)
theorem idx4 : ∀ t : Fin cfg0.N, win0_4.index t = ![0, 3] :=
  (by decide +kernel : ∀ t : Fin grid0.N, _)
theorem idx5 : ∀ t : Fin cfg0.N, win0_5.index t = ![0, 4] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t 1 = 0 :=
  (by decide +kernel : ∀ t : Fin grid0.N, _)
theorem idx8 : ∀ t : Fin cfg0.N, win0_8.index t = ![win0_7.index t 0, 0] :=
  (by decide +kernel : ∀ t : Fin grid0.N, _)

variable (m : (ℓ : Loc nD τ sig) → Buf (Elt Ideal) ℓ)

/-- The gain as the call finds it: the argument as one row. -/
theorem row_eq (c : Dev nD) (j : S1x2048.Idx) : V m c main_v0 j = m ((c : Thread nD τ).loc main_arg4) (ix1 (j 1)) := by
  have h : V m c main_v0 = shapeCast S1x2048 (m ((c : Thread nD τ).loc main_arg4)) shapeCasts_S2048_S1x2048 := by
    unfold V
    after_results
    rfl
  rw [h]
  pointwise

/-- What the body leaves in its first result at point `t` is the residual at the row the block places it at. -/
theorem block1 (c : Dev nD) (t : Fin cfg0.N) (y : S512x2048.Idx) (i : S16384x2048.Idx)
    (h0 : (i 0 : ℕ) = win0_7.index t 0 * 512 + y 0) (h1 : (i 1 : ℕ) = y 1) :
    k0_pay1 (iblk m c 0 t) (iblk m c 1 t) (iblk m c 2 t) (View.ld (iblk m c 3 t) r0_2) y
    = residual (m ((c : Thread nD τ).loc main_arg0)) (m ((c : Thread nD τ).loc main_arg1))
        (m ((c : Thread nD τ).loc main_arg2)) (m ((c : Thread nD τ).loc main_arg3)) i := by
  rw [pay1_apply]
  unfold residual
  show (_ : EReal) = _
  refine congrArg₂ (· + ·) ?_ (congrArg₂ (· * ·) ?_ (Finset.sum_congr rfl fun k _ => ?_))
  · blk_simp [iblk]
    congr 1
    blk_ext [idx2 t, h0, h1]
  · pointwise [r0_2]
    blk_simp [iblk]
    congr 1
    blk_ext [idx3 t, h0, h1]
  · blk_simp [iblk]
    congr 2
    · blk_ext [idx0 t, h0, h1]
    · blk_ext [idx1 t, h0, h1]

/-- The first result array after the run is the residual stream. -/
theorem final1 (c : Dev nD) : (dats m 0 c).arrAt 7 cfg0.N
    = residual (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t hf y => ?_
  blk_simp
  rw [after0_7]
  frame_out
  refine block1 m c t y _ ?_ ?_
  · blk_simp
  · blk_simp [idx7 t]

/-- The second result array after the run is its modulated norm. -/
theorem final2 (c : Dev nD) : (dats m 0 c).arrAt 8 cfg0.N
    = normed (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  rw [pay2_apply]
  unfold normed
  have e1 : (y 1 : Fin 2048) = ((win0_8.blk t).view.emb y 1 : Fin 2048) := by
    apply Fin.ext; blk_simp [idx8 t]
  show norm _ _ _ _ _ = norm _ _ _ _ _
  congr 1
  · funext k
    exact block1 m c t _ _ (by blk_simp [idx8 t]) rfl
  · blk_simp [iblk]
    rw [row_eq]
    congr 2
    blk_ext [idx6 t, idx8 t]
  · pointwise [r0_2]
    blk_simp [iblk]
    congr 1
    blk_ext [idx5 t, idx8 t]
  · pointwise [r0_2]
    blk_simp [iblk]
    congr 1
    blk_ext [idx4 t, idx8 t]

end Cert.Proof.OutNorm
end
-- ==== Proof.OutNorm.lean ====
/- The claims on the output projection and its norm: it runs and leaves its arguments, and it computes what its reference computes. -/
module

public import proofs.«01_k».proof.Defs
public import proofs.«01_k».proof.Proof.OutNormValue
public import proofs.«01_k».proof.Proof.Gen.Kernel6.Frame

@[expose] public section

set_option maxRecDepth 16384

noncomputable section

namespace Cert.Proof.OutNorm

open Idealize.ShloMosaic Idealize.ShloMosaic.TcCoe Idealize.SL.Sem

/-- The reference's run: its results are `residual` and `normed` of its arguments, which it leaves as they were. -/
theorem ref_run (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ fun r => ∀ c : Dev Cert.Reference6Ideal.nD,
      r.2.mem ((c.tc : Thread Cert.Reference6Ideal.nD Cert.Reference6Ideal.τ).loc Cert.Reference6Ideal.main_v8) = residual (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))
      ∧ r.2.mem ((c.tc : Thread Cert.Reference6Ideal.nD Cert.Reference6Ideal.τ).loc Cert.Reference6Ideal.main_v28) = normed (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4) :=
  (θ_run _ _ _).mono (fun r h c => ⟨(h c).1.trans (by funext i; rw [eq_ix2 i]; pointwise [residual]),
      (h c).2.1.trans (by funext i; rw [eq_ix2 i]; pointwise [normed, norm, residual]),
      (h c).2.2⟩)
    (Cert.Reference6Ideal.Value.run m ρ)

/-- The reference runs and leaves its arguments; it has no counter. -/
theorem frame_ref : Cert.quiescent_Reference6Ideal := fun m ρ _ =>
  (θ_run _ _ _).mono (fun r h => ⟨fun c => (h c).2.2, sem_eq_zero_of_no_sems (by decide) r.2⟩) (ref_run m ρ)

/-- The kernel runs on machine words, leaves its arguments, and every counter is back at zero. -/
theorem frame_kernel : Cert.quiescent_Kernel6 := fun m ρ _ => Cert.Kernel6.Gen.frame m ρ

/-- The same on extended reals. -/
theorem frame_ideal : Cert.quiescent_Kernel6Ideal := fun m ρ _ => Cert.Kernel6Ideal.Gen.frame m ρ

/-- Kernel and reference, from the same arguments, end with the same results on extended reals. -/
theorem algebraic : Cert.algebraic_Kernel6Ideal_Reference6Ideal := by
  intro m ρ m' ρ' _ hag
  refine ⟨fun c => residual (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => normed (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), ?_, ?_⟩
  · exact (θ_run _ _ _).mono (fun r h c => ⟨(h c).1.trans (final1 m c),
      (h c).2.1.trans (final2 m c),
      (h c).2.2⟩)
      (Cert.Kernel6Ideal.Value.run_blocks m ρ)
  · refine (θ_run _ _ _).mono (fun r h c => ?_) (ref_run m' ρ')
    obtain ⟨e0, e1, e2, e3, e4⟩ := hag c
    exact ⟨(h c).1.trans (by rw [e0, e1, e2, e3]),
      (h c).2.1.trans (by rw [e0, e1, e2, e3, e4]),
      (h c).2.2⟩

end Cert.Proof.OutNorm
end
-- ==== Proof.UpBodyIdeal.lean ====
/- One run of the feed-forward up projection's body, at any float values: what it stores in its result block and what it
   carries on, as functions of the blocks it reads and of the rows carried from the row tile before. -/
module

public import proofs.«01_k».proof.Proof.Gen.Kernel7Ideal.Frame
public import proofs.«01_k».proof.Proof.Gen.Kernel7Ideal.Skeleton
public import Idealize.ShloMosaic.Lib.Pipeline.ValueKit

@[expose] public section

set_option maxRecDepth 16384

noncomputable section

namespace Cert.Proof.Up.Kernel7Ideal

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The product of a strip of 256 rows with a block of the weights. -/
def prod (W : Vec F S2048x512 .bf16) (X : Vec F S256x2048 .bf16) : FVec F S256x512 .f32 :=
  matmul dot_S256x2048_S2048x512_S256x512_1_0_0_1_n_n none X W (constant S256x512 .f32 0x00000000#32)

/-- The last eight rows of a strip. -/
def last8 (u : FVec F S256x512 .f32) : FVec F S8x512 .f32 :=
  extractStridedSlice S8x512 ![248, 0] u slices_S256x512_o248_0_S8x512

/-- A strip moved down by `s` rows, the rows from before it coming in at its top. -/
def shifted (s : BitVec 32) (p : FVec F S8x512 .f32) (u : FVec F S256x512 .f32) : FVec F S256x512 .f32 :=
  extractStridedSlice S256x512 ![8, 0]
    (dynamicRotate 0 s none (concatenate S264x512 0 [⟨S8x512, p⟩, ⟨S256x512, u⟩] concatenates_S8x512_S256x512_S264x512_d0) rotates_S264x512_d0)
    slices_S264x512_o8_0_S256x512

/-- One row, repeated down a strip. -/
def rep (d : Vec F S1x512 .f32) : FVec F S256x512 .f32 :=
  broadcastTo S256x512 (shapeCast S1x512 d shapeCasts_S1x512_S1x512) broadcasts_S1x512_S256x512

/-- The causal convolution of width three along a strip's rows. -/
def conv (p : FVec F S8x512 .f32) (u : FVec F S256x512 .f32) (d0 d1 d2 b : Vec F S1x512 .f32) : FVec F S256x512 .f32 :=
  addf (addf (addf (rep b) (mulf u (rep d2))) (mulf (shifted 1#32 p u) (rep d1))) (mulf (shifted 2#32 p u) (rep d0))

/-- The gate `g · σ(g) · a`, rounded to the result's type. -/
def gate (g a : FVec F S256x512 .f32) : FVec F S256x512 .bf16 :=
  truncf .bf16 (mulf (mulf g (divf (broadcast S256x512 (Scalar.ofBits .f32 0x3F800000#32)) (addf (broadcast S256x512 (Scalar.ofBits .f32 0x3F800000#32))
    (exp (subf (broadcast S256x512 (Scalar.ofBits .f32 0x00000000#32)) g))))) a) bitsLt_bf16_f32

/-- The four strips of a row tile. -/
abbrev strip0 (X : Vec F S1024x2048 .bf16) : Vec F S256x2048 .bf16 := View.ld (Val := Elt F) X (Rect.unit ![0, 0] S256x2048.size inb_S1024x2048_S256x2048_0_0)
abbrev strip1 (X : Vec F S1024x2048 .bf16) : Vec F S256x2048 .bf16 := View.ld (Val := Elt F) X (Rect.unit ![256, 0] S256x2048.size inb_S1024x2048_S256x2048_256_0)
abbrev strip2 (X : Vec F S1024x2048 .bf16) : Vec F S256x2048 .bf16 := View.ld (Val := Elt F) X (Rect.unit ![512, 0] S256x2048.size inb_S1024x2048_S256x2048_512_0)
abbrev strip3 (X : Vec F S1024x2048 .bf16) : Vec F S256x2048 .bf16 := View.ld (Val := Elt F) X (Rect.unit ![768, 0] S256x2048.size inb_S1024x2048_S256x2048_768_0)

/-- A block of the weights, as loaded. -/
abbrev whole (W : Vec F S2048x512 .bf16) : Vec F S2048x512 .bf16 := View.ld (Val := Elt F) W (Rect.unit ![0, 0] S2048x512.size inb_S2048x512_S2048x512_0_0)

/-- The convolution with the taps and the bias read off their blocks. -/
def convOf (D : Vec F S8x512 .f32) (B : Vec F S1x512 .f32) (p : FVec F S8x512 .f32) (u : FVec F S256x512 .f32) : FVec F S256x512 .f32 :=
  conv p u (View.ld (Val := Elt F) D (Rect.unit ![0, 0] S1x512.size inb_S8x512_S1x512_0_0)) (View.ld (Val := Elt F) D (Rect.unit ![1, 0] S1x512.size inb_S8x512_S1x512_1_0))
    (View.ld (Val := Elt F) D (Rect.unit ![2, 0] S1x512.size inb_S8x512_S1x512_2_0)) (View.ld (Val := Elt F) B (Rect.unit ![0, 0] S1x512.size inb_S1x512_S1x512_0_0))

/-- The stored strip: the gate of the two convolved products, `p`/`q` the rows before them. -/
def strip (X5 X6 : Vec F S8x512 .f32) (X7 X8 : Vec F S1x512 .f32) (p q : FVec F S8x512 .f32) (u v : FVec F S256x512 .f32) : FVec F S256x512 .bf16 :=
  gate (convOf X6 X8 q v) (convOf X5 X7 p u)

/-- The result block a run of the body leaves. -/
def outBlock (X2 : Vec F S1024x2048 .bf16) (X3 X4 : Vec F S2048x512 .bf16) (X5 X6 : Vec F S8x512 .f32) (X7 X8 : Vec F S1x512 .f32)
    (p q : FVec F S8x512 .f32) : Vec F S1024x512 .bf16 :=
  View.canon (Val := Elt F) [⟨Rect.unit ![768, 0] S256x512.size inb_S1024x512_S256x512_768_0, strip X5 X6 X7 X8 (last8 (prod (whole X3) (strip2 X2))) (last8 (prod (whole X4) (strip2 X2))) (prod (whole X3) (strip3 X2)) (prod (whole X4) (strip3 X2))⟩,
    ⟨Rect.unit ![512, 0] S256x512.size inb_S1024x512_S256x512_512_0, strip X5 X6 X7 X8 (last8 (prod (whole X3) (strip1 X2))) (last8 (prod (whole X4) (strip1 X2))) (prod (whole X3) (strip2 X2)) (prod (whole X4) (strip2 X2))⟩,
    ⟨Rect.unit ![256, 0] S256x512.size inb_S1024x512_S256x512_256_0, strip X5 X6 X7 X8 (last8 (prod (whole X3) (strip0 X2))) (last8 (prod (whole X4) (strip0 X2))) (prod (whole X3) (strip1 X2)) (prod (whole X4) (strip1 X2))⟩,
    ⟨Rect.unit ![0, 0] S256x512.size inb_S1024x512_S256x512_0_0, strip X5 X6 X7 X8 p q (prod (whole X3) (strip0 X2)) (prod (whole X4) (strip0 X2))⟩]

/-- The four strips fill the block. -/
theorem fill (w0 w1 w2 w3 : FVec F S256x512 .bf16) (y : S1024x512.Idx) :
    ∃ p ∈ ([⟨Rect.unit ![768, 0] S256x512.size inb_S1024x512_S256x512_768_0, w3⟩, ⟨Rect.unit ![512, 0] S256x512.size inb_S1024x512_S256x512_512_0, w2⟩,
      ⟨Rect.unit ![256, 0] S256x512.size inb_S1024x512_S256x512_256_0, w1⟩, ⟨Rect.unit ![0, 0] S256x512.size inb_S1024x512_S256x512_0_0, w0⟩] : List (View.Piece (Elt F) S1024x512 .bf16)), y ∈ p.1.set :=
  View.cover_of_tiled (s := S1024x512) _ S256x512.size (by rfl) y

/-- The row of a carry that the body works on. -/
abbrev row (i : grid0.Coords) : Rect S11x8x512 := Rect.unit (s := S11x8x512) (k0_off2 i) S1x8x512.size (k0_off2_inb i)

/-- What a run stores in its row of a carry: the last eight rows of the last strip's product. -/
def keep (W : Vec F S2048x512 .bf16) (X : Vec F S1024x2048 .bf16) : Vec F S1x8x512 .f32 :=
  shapeCast S1x8x512 (last8 (prod (whole W) (strip3 X))) shapeCasts_S8x512_S1x8x512

/-- The rows a run starts from: zeros in the first row tile, else what its row of the carry holds. -/
def start (i : grid0.Coords) (w : Vec F S1x8x512 .f32) : FVec F S8x512 .f32 :=
  shapeCast S8x512 (if k0_cond1 i = 1#1 then shapeCast S1x8x512 (broadcast S8x512 (Scalar.ofBits (F := F) .f32 0x00000000#32)) shapeCasts_S8x512_S1x8x512 else w) shapeCasts_S1x8x512_S8x512

/-- A carry `d` that is `D` with the run's row replaced by `w`. -/
def Put (i : grid0.Coords) (D : Vec F S11x8x512 .f32) (w : Vec F S1x8x512 .f32) (d : Vec F S11x8x512 .f32) : Prop :=
  (∀ x, d ((row i).emb x) = w x) ∧ ∀ y, y ∉ (row i).set → d y = D y

theorem put_writes {κ : Kind} {sp : Space} (v : View sig κ sp S11x8x512 .f32) (f : v.ty.Contents (Elt F)) (i : grid0.Coords) (w : Vec F S1x8x512 .f32) :
    Put i (v.read (Elt F) f) w (v.read (Elt F) (v.writes (Elt F) f [⟨row i, w⟩])) := by
  refine ⟨fun x => View.read_writes_cons_emb .., fun y hy => ?_⟩
  have hy' : y ∉ Finset.univ.map (row i).emb := by rwa [Rect.map_emb_univ]
  rw [View.writes_cons, View.read_slice_write_of_not_mem (row i) _ _ _ hy']
  rfl

theorem put_writes_two {κ : Kind} {sp : Space} (v : View sig κ sp S11x8x512 .f32) (f : v.ty.Contents (Elt F)) (i : grid0.Coords) (w w' : Vec F S1x8x512 .f32) :
    Put i (v.read (Elt F) f) w (v.read (Elt F) (v.writes (Elt F) f [⟨row i, w⟩, ⟨row i, w'⟩])) := by
  refine ⟨fun x => View.read_writes_cons_emb .., fun y hy => ?_⟩
  have hy' : y ∉ Finset.univ.map (row i).emb := by rwa [Rect.map_emb_univ]
  rw [View.writes_cons, View.read_slice_write_of_not_mem (row i) _ _ _ hy']
  exact (put_writes v f i w').2 y hy

theorem read_back {κ : Kind} {sp : Space} (v : View sig κ sp S11x8x512 .f32) (i : grid0.Coords) (w : Vec F S1x8x512 .f32) :
    v.readCov [⟨row i, w⟩] (row i).toLoadRect = w := by
  funext j
  exact View.read_writes_cons_emb ..

set_option maxHeartbeats 0 in
/-- One run of the body. -/
theorem body (c : Dev nD) (i : grid0.Coords)
   (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole)
   (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1x512 .f32) (harg8 : arg8.IsWhole)
   (arg9 : Memref sig .tc .vmem S1024x512 .bf16) (harg9 : arg9.IsWhole) (arg10 : Memref sig .tc .vmem S11x8x512 .f32) (harg10 : arg10.IsWhole) (arg11 : Memref sig .tc .vmem S11x8x512 .f32) (harg11 : arg11.IsWhole)
   (X2 : Vec F S1024x2048 .bf16) (X3 X4 : Vec F S2048x512 .bf16) (X5 X6 : Vec F S8x512 .f32) (X7 X8 : Vec F S1x512 .f32) (D10 D11 : Vec F S11x8x512 .f32) :
   iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ d, owns (c : Thread nD τ) arg9 fullShare d) ∗ owns (c : Thread nD τ) arg10 fullShare D10 ∗ owns (c : Thread nD τ) arg11 fullShare D11 : sProp 𝕄)
   ⊢ wp frame (wpE (defs₀ (F := F)) Variants.none (c : Thread nD τ) none) Set.univ (cc0_ffn_up (F := F) i arg2 harg2 arg3 harg3 arg4 harg4 arg5 harg5 arg6 harg6 arg7 harg7 arg8 harg8 arg9 harg9 arg10 harg10 arg11 harg11)
     (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
       ∗ owns (c : Thread nD τ) arg9 fullShare (outBlock X2 X3 X4 X5 X6 X7 X8 (start i (View.ld (Val := Elt F) D10 (row i))) (start i (View.ld (Val := Elt F) D11 (row i))))
       ∗ (∃ d, owns (c : Thread nD τ) arg10 fullShare d ∗ ⌜Put i D10 (keep X3 X2) d⌝) ∗ (∃ d, owns (c : Thread nD τ) arg11 fullShare d ∗ ⌜Put i D11 (keep X4 X2) d⌝))) := by
  simp only [cc0_ffn_up_eq_skeleton]
  unfold cc0_ffn_up_skel owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, %h9, H9⟩, ⟨%f10, %h10, H10⟩, ⟨%f11, %h11, H11⟩⟩
  subst h2 h3 h4 h5 h6 h7 h8 h9 h10 h11
  by_cases h1 : k0_cond1 i = 1#1
  · sl_exec_parts
    sl_step
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr [H9]; swap; · iexact H9
      ipureintro
      refine (View.read_writes_eq_canon _ _ _ (fill _ _ _ _)).trans ?_
      have s10 : start i (View.ld (Val := Elt F) (arg10.view.read (Elt F) f10) (row i)) = shapeCast S8x512 (arg10.view.readCov (Val := Elt F) [⟨row i, k0_pay4 (F := F)⟩] (row i).toLoadRect) shapeCasts_S1x8x512_S8x512 := by
        rw [read_back]; unfold start; rw [if_pos h1]; rfl
      have s11 : start i (View.ld (Val := Elt F) (arg11.view.read (Elt F) f11) (row i)) = shapeCast S8x512 (arg11.view.readCov (Val := Elt F) [⟨row i, k0_pay5 (F := F)⟩] (row i).toLoadRect) shapeCasts_S1x8x512_S8x512 := by
        rw [read_back]; unfold start; rw [if_pos h1]; rfl
      rw [s10, s11]
      rfl
    isplitl [H10]
    · iexists _; isplitl [H10]
      · iexists _; isplitr [H10]; swap; · iexact H10
        ipureintro; rfl
      · ipureintro; exact put_writes_two _ _ i _ _
    · iexists _; isplitl [H11]
      · iexists _; isplitr [H11]; swap; · iexact H11
        ipureintro; rfl
      · ipureintro; exact put_writes_two _ _ i _ _
  · sl_exec_parts
    sl_step
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr [H9]; swap; · iexact H9
      ipureintro
      refine (View.read_writes_eq_canon _ _ _ (fill _ _ _ _)).trans ?_
      unfold start
      rw [if_neg h1, if_neg h1]
      rfl
    isplitl [H10]
    · iexists _; isplitl [H10]
      · iexists _; isplitr [H10]; swap; · iexact H10
        ipureintro; rfl
      · ipureintro; exact put_writes _ _ i _
    · iexists _; isplitl [H11]
      · iexists _; isplitr [H11]; swap; · iexact H11
        ipureintro; rfl
      · ipureintro; exact put_writes _ _ i _

end Cert.Proof.Up.Kernel7Ideal

end
-- ==== Proof.UpLaunchIdeal.lean ====
/- The feed-forward up projection as a whole, at any float values: what every run of the body leaves, the rows carried from
   one row tile to the next along the grid, and the frame. -/
module

public import proofs.«01_k».proof.Proof.UpBodyIdeal
public import proofs.«01_k».proof.Proof.Gen.Kernel7Ideal.Frame
public import proofs.«01_k».proof.Proof.Gen.Kernel7Ideal.Points
public import Idealize.ShloMosaic.Lib.Pipeline.FrameBody

@[expose] public section

noncomputable section

namespace Cert.Proof.Up.Kernel7Ideal

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

theorem off_eq : ∀ t : Fin cfg0.N, k0_off2 (grid0.coords t) = ![t.val % 11, 0, 0] :=
  (by decide +kernel : ∀ t : Fin grid0.N, _)

theorem first_iff : ∀ t : Fin cfg0.N, k0_cond1 (grid0.coords t) = 1#1 ↔ t.val < 11 :=
  (by decide +kernel : ∀ t : Fin grid0.N, _)

/-- What point `t` leaves in its row of the two carries. -/
def keepA (c : Dev nD) (t : Fin cfg0.N) : Vec F S1x8x512 .f32 := keep (iblk m c 1 t) (iblk m c 0 t)
def keepG (c : Dev nD) (t : Fin cfg0.N) : Vec F S1x8x512 .f32 := keep (iblk m c 2 t) (iblk m c 0 t)

/-- The point of the same column one row tile earlier. -/
def up (t : Fin cfg0.N) : Fin cfg0.N := ⟨t.val - 11, Nat.lt_of_le_of_lt (Nat.sub_le _ _) t.isLt⟩

/-- What point `t` stores in its block of the result. -/
def outAt (c : Dev nD) (t : Fin cfg0.N) : Vec F S1024x512 .bf16 :=
  outBlock (iblk m c 0 t) (iblk m c 1 t) (iblk m c 2 t) (iblk m c 3 t) (iblk m c 4 t) (iblk m c 5 t) (iblk m c 6 t)
    (start (grid0.coords t) (keepA m c (up t))) (start (grid0.coords t) (keepG m c (up t)))

/-- Before point `n` a carry holds, in the row of each of the eleven points before it, what that point left. -/
def Carry (k : Fin cfg0.N → Vec F S1x8x512 .f32) (n : ℕ) (d : Vec F S11x8x512 .f32) : Prop :=
  ∀ t : Fin cfg0.N, t.val < n → n ≤ t.val + 11 → ∀ x, d ((row (grid0.coords t)).emb x) = k t x

/-- The row of another column is untouched. -/
theorem other_row (t t' : Fin cfg0.N) (h : t.val % 11 ≠ t'.val % 11) (x : S1x8x512.Idx) :
    (row (grid0.coords t)).emb x ∉ (row (grid0.coords t')).set := by
  intro hm
  obtain ⟨x', hx'⟩ := (row (grid0.coords t')).exists_idx_of_mem hm
  have h0 : ((row (grid0.coords t')).emb x' 0).val = ((row (grid0.coords t)).emb x 0).val := congrArg (fun y : S11x8x512.Idx => (y 0).val) hx'
  have e : ∀ (u : Fin cfg0.N) (z : S1x8x512.Idx), ((row (grid0.coords u)).emb z 0).val = u.val % 11 := fun u z => by
    have hz : (z 0).val = 0 := Nat.lt_one_iff.1 (z 0).isLt
    show k0_off2 (grid0.coords u) 0 + 1 * (z 0).val = _
    rw [hz, off_eq u]; simp
  rw [e, e] at h0
  exact h h0.symm

theorem carry_step (k : Fin cfg0.N → Vec F S1x8x512 .f32) (t : Fin cfg0.N) (D d : Vec F S11x8x512 .f32)
    (h : Carry k t.val D) (hp : Put (grid0.coords t) D (k t) d) : Carry k (t.val + 1) d := by
  intro t' h1 h2 x
  rcases Nat.lt_or_eq_of_le (Nat.lt_succ_iff.1 h1) with h3 | h3
  · rw [hp.2 _ (other_row t' t (by omega) x)]
    exact h t' h3 (by omega) x
  · obtain rfl : t' = t := Fin.ext h3
    exact hp.1 x

theorem start_eq (k : Fin cfg0.N → Vec F S1x8x512 .f32) (t : Fin cfg0.N) (D : Vec F S11x8x512 .f32) (h : Carry k t.val D) :
    start (grid0.coords t) (View.ld (Val := Elt F) D (row (grid0.coords t))) = start (grid0.coords t) (k (up t)) := by
  unfold start
  by_cases h1 : k0_cond1 (grid0.coords t) = 1#1
  · rw [if_pos h1, if_pos h1]
  · rw [if_neg h1, if_neg h1]
    refine congrArg (fun w => shapeCast S8x512 w shapeCasts_S1x8x512_S8x512) (funext fun x => ?_)
    have hn : ¬ t.val < 11 := fun hh => h1 ((first_iff t).2 hh)
    have hr := h (up t) (by show t.val - 11 < t.val; omega) (by show t.val ≤ t.val - 11 + 11; omega) x
    rw [← hr]
    show D _ = D _
    congr 1
    have ho : k0_off2 (grid0.coords t) = k0_off2 (grid0.coords (up t)) := by
      rw [off_eq, off_eq]
      have : t.val % 11 = (up t).val % 11 := by show _ = (t.val - 11) % 11; omega
      rw [this]
    funext a
    refine Fin.ext ?_
    show k0_off2 (grid0.coords t) a + 1 * (x a).val = k0_off2 (grid0.coords (up t)) a + 1 * (x a).val
    rw [ho]

/-- What is held between points: the two carries, with what the last eleven points left, and the generator's register. -/
def Held (c : Dev nD) (n : ℕ) : sProp 𝕄 :=
  iprop(((∃ d, owns (c : Thread nD τ) (Memref.whole cc0_scratch0 : Memref sig .tc _ _ _) fullShare d ∗ ⌜Carry (keepA m c) n d⌝)
    ∗ (∃ d, owns (c : Thread nD τ) (Memref.whole cc0_scratch1 : Memref sig .tc _ _ _) fullShare d ∗ ⌜Carry (keepG m c) n d⌝)) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Held m c t.val
  q w := Pipeline.shareOf spec0 w
  owed _ := 0

theorem dats_A (c : Dev nD) (w : Fin cfg0.W) : (dats m 0 c).A w = V m c (Pipeline.arrRef spec0 w) := by
  dsimp only [dats]

theorem after7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d

/-- The held scratch buffers and the generator's register, one by one. -/
theorem scratch_eq (c : Dev nD) :
    (Pipeline.ΦA spec0 c : sProp 𝕄) = iprop(iprop((∃ d, owns (c : Thread nD τ) (Memref.whole cc0_scratch0 : Memref sig .tc _ _ _) fullShare d) ∗ (∃ d, owns (c : Thread nD τ) (Memref.whole cc0_scratch1 : Memref sig .tc _ _ _) fullShare d)) ∗ (∃ r, prngReg c r)) := by
  unfold Pipeline.ΦA; rw [scopedRest0_eq]; simp only [owns_whole]; try rfl

/-- Before the first point the carries may hold anything. -/
theorem held_first (c : Dev nD) : (Pipeline.ΦA spec0 c : sProp 𝕄) ⊢ Held m c 0 := by
  rw [scratch_eq]
  unfold Held
  iintro ⟨⟨⟨%d, H⟩, ⟨%e, G⟩⟩, R⟩
  isplitl [H G]
  · isplitl [H]
    · iexists d; isplitl [H]; · iexact H
      ipureintro; exact fun t h => absurd h (Nat.not_lt_zero _)
    · iexists e; isplitl [G]; · iexact G
      ipureintro; exact fun t h => absurd h (Nat.not_lt_zero _)
  iexact R

/-- What is held can be forgotten. -/
theorem held_forget (c : Dev nD) (n : ℕ) : Held m c n ⊢ (Pipeline.ΦA spec0 c : sProp 𝕄) := by
  rw [scratch_eq]
  unfold Held
  iintro ⟨⟨⟨%d, H, -⟩, ⟨%e, G, -⟩⟩, R⟩
  isplitl [H G]
  · isplitl [H]
    · iexists d; iexact H
    · iexists e; iexact G
  iexact R

/-- What a point holds before its body runs, window by window. -/
def before (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- What a point holds after its body has run. -/
def after (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

set_option maxHeartbeats 2000000 in
/-- The body at a grid point. -/
theorem sound (c : Dev nD) (t : Fin cfg0.N) :
    before m c t ⊢ wp frame (wpE (defs₀ (F := F)) Variants.none (c : Thread nD τ) none) Set.univ (bodyAt0 t) (fun _ => after m c t) := by
  unfold before after bodyAt0
  rw [show (dats m 0 c).Φ t.castSucc = Held m c t.val from rfl, show (dats m 0 c).Φ t.succ = Held m c (t.val + 1) from rfl,
    show (dats m 0 c).owesAt () t.succ = (dats m 0 c).owesAt () t.castSucc from rfl, after7]
  simp only [before_0, before_1, before_2, before_3, before_4, before_5, before_6]
  unfold Held
  iintro ⟨⟨⟨⟨%D, HS0, %hD⟩, ⟨%E, HS1, %hE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r Idealize.ShloMosaic.frame (wpE (defs₀ (F := F)) Variants.none (c : Thread nD τ) none) Set.univ)
  isplitl [H0 H1 H2 H3 H4 H5 H6 H7 HS0 HS1]
  · iapply (body (F := F) c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) D E)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iexact HS1
  · iintro %_ H
    rw [start_eq (keepA m c) t D hD, start_eq (keepG m c) t E hE]
    icases H with ⟨H0, H1, H2, H3, H4, H5, H6, H7, ⟨%D', HS0, %hD'⟩, ⟨%E', HS1, %hE'⟩⟩
    isplitl [HS0 HS1 Hg]
    · isplitl [HS0 HS1]
      · isplitl [HS0]
        · iexists D'; isplitl [HS0]; · iexact HS0
          ipureintro; exact carry_step _ t D D' hD hD'
        · iexists E'; isplitl [HS1]; · iexact HS1
          ipureintro; exact carry_step _ t E E' hE hE'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body as spelt above. -/
theorem table_row (t : Fin cfg0.N) : defs₀ (F := F) .tc cfg0.body (cfg0.bodyArgs t (cfg0.slots t)) = bodyAt0 t := by
  unfold defs₀; rw [Defs.onTc_tc]

/-- The library's body obligation, at every point. -/
theorem obligation (c : Dev nD) : BodyObligation (dats (F := F) m 0 c) (defs₀ (F := F)) Variants.none () Set.univ := fun t => by
  rw [bigSep_W0, bigSep_W0, table_row]
  exact triple_restated (sound m c t) rfl .rfl fun _ => .rfl

set_option backward.isDefEq.respectTransparency.types false in
set_option maxHeartbeats 800000 in
/-- The run: every array of the pipeline as the proof data say, every counter at zero. -/
theorem run : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := dats_A m) (hin := fun c => held_first m c) (hout := fun c => held_forget m c _)

/-- THE FRAME: the program runs, ends with its four arguments unchanged and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run m ρ)
  exact ⟨((h.1 c).1 0).trans (((dats m 0 c).arrAt_in 0 rfl _).trans ((dats_A m c 0).trans (V_main_arg0 m c))),
      ((h.1 c).1 2).trans (((dats m 0 c).arrAt_in 2 rfl _).trans ((dats_A m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩

end Cert.Proof.Up.Kernel7Ideal

end
-- ==== Proof.UpValue.lean ====
/- What the feed-forward up projection computes on extended reals, index by index: the causal convolution of the
   product's columns, gated. -/
module

public import proofs.«01_k».proof.Proof.UpLaunchIdeal
public import Idealize.ShloMosaic.Lib.Pipeline.ValueKit
public import Idealize.ShloMosaic.Lib.KernelVsHost
public import Idealize.ShloMosaic.Lib.Pointwise

@[expose] public section

set_option maxRecDepth 16384

noncomputable section

namespace Cert.Proof.Up

open Cert.Kernel7Ideal Cert.Kernel7Ideal.Gen Cert.Proof.Up.Kernel7Ideal
open Idealize.ShloMosaic Idealize.ShloMosaic.TcCoe Idealize.ShloMosaic.Tactic

/-- The logistic function of an extended real, as both programs compute it. -/
def sigmoid (x : EReal) : EReal := Ideal.div 1 (1 + Ideal.exp (-x))

/-- Row `n` of the product, two rows of zeros put before it; its column is `l`. -/
def padded (h : FVec Ideal S16384x2048 .bf16) (w : FVec Ideal S2048x11264 .bf16) (n : ℕ) (l : Fin 11264) : EReal :=
  if hn : 2 ≤ n ∧ n - 2 < 16384 then ∑ k : Fin 2048, h (ix2 (⟨n - 2, hn.2⟩ : Fin 16384) k) * w (ix2 k l) else 0

/-- The causal convolution of column `l` at row `n`. -/
def tap (h : FVec Ideal S16384x2048 .bf16) (w : FVec Ideal S2048x11264 .bf16) (d : FVec Ideal S3x11264 .f32) (b : FVec Ideal S11264 .f32)
    (n : ℕ) (l : Fin 11264) : EReal :=
  d (ix2 0 l) * padded h w n l + d (ix2 1 l) * padded h w (n + 1) l + d (ix2 2 l) * padded h w (n + 2) l + b (ix1 l)

/-- The gated result. -/
def result (h : FVec Ideal S16384x2048 .bf16) (w : FVec Ideal S2048x11264 .bf16) (d : FVec Ideal S3x11264 .f32) (b : FVec Ideal S11264 .f32) :
    FVec Ideal S16384x5632 .bf16 :=
  fun i => tap h w d b (i 0).val ⟨5632 + (i 1).val, by have := (i 1).isLt; simp at this; omega⟩
      * sigmoid (tap h w d b (i 0).val ⟨5632 + (i 1).val, by have := (i 1).isLt; simp at this; omega⟩)
    * tap h w d b (i 0).val ⟨(i 1).val, by have := (i 1).isLt; simp at this; omega⟩

theorem idx_ext {n0 n1 : ℕ} {i j : Shape.Idx ⟨2, ![n0, n1]⟩} (h0 : (i 0).val = (j 0).val) (h1 : (i 1).val = (j 1).val) : i = j := by
  funext a
  match a with
  | ⟨0, _⟩ => exact Fin.ext h0
  | ⟨1, _⟩ => exact Fin.ext h1

/-! ## One strip -/

theorem shifted_apply (sb : BitVec 32) (s : ℕ) (hsb : sb.toNat = s) (hs : s ≤ 8) (p : FVec Ideal S8x512 .f32) (u : FVec Ideal S256x512 .f32)
    (r : Fin 256) (l : Fin 512) :
    shifted sb p u (ix2 r l) = if hr : s ≤ r.val then u (ix2 (⟨r.val - s, by omega⟩ : Fin 256) l)
      else p (ix2 (⟨8 + r.val - s, by omega⟩ : Fin 8) l) := by
  unfold shifted
  refine (dynamicRotate_apply (0 : Fin 2) sb _ rotates_S264x512_d0 _ (ix2 (⟨8 + r.val - s, by omega⟩ : Fin 264) l) (by
    intro b
    match b with
    | ⟨0, _⟩ =>
      show 8 + r.val - s = (8 + r.val + 264 - sb.toNat % 264) % 264
      rw [hsb]; omega
    | ⟨1, _⟩ => show l.val = 0 + l.val; omega)).trans ?_
  by_cases hr : s ≤ r.val
  · rw [dif_pos hr]
    exact concatenate_pair_apply_right (t := S264x512) (s₁ := S8x512) (s₂ := S256x512) (0 : Fin 2) _ _ _ _ rfl rfl
      (ix2 (⟨r.val - s, by omega⟩ : Fin 256) l) (by
        intro b hb
        match b with
        | ⟨0, _⟩ => exact absurd rfl hb
        | ⟨1, _⟩ => rfl) (by show r.val - s + 8 = 8 + r.val - s; omega)
  · rw [dif_neg hr]
    exact concatenate_pair_apply_left (t := S264x512) (s₁ := S8x512) (s₂ := S256x512) (0 : Fin 2) _ _ _ _ rfl
      (ix2 (⟨8 + r.val - s, by omega⟩ : Fin 8) l) (by
        intro b
        match b with
        | ⟨0, _⟩ => rfl
        | ⟨1, _⟩ => rfl)

theorem rep_apply (d : Vec Ideal S1x512 .f32) (r : Fin 256) (l : Fin 512) : rep d (ix2 r l) = d (ix2 0 l) := by
  pointwise [rep]

/-- The convolution at an index, where the strip and the rows before it are consecutive rows of `P`. -/
theorem conv_apply (P : ℕ → Fin 512 → EReal) (o : ℕ) (p : FVec Ideal S8x512 .f32) (u : FVec Ideal S256x512 .f32) (d0 d1 d2 b : Vec Ideal S1x512 .f32)
    (hu : ∀ (r : Fin 256) l, u (ix2 r l) = P (o + r.val + 2) l) (h6 : ∀ l, p (ix2 6 l) = P o l) (h7 : ∀ l, p (ix2 7 l) = P (o + 1) l)
    (r : Fin 256) (l : Fin 512) :
    conv p u d0 d1 d2 b (ix2 r l)
      = d0 (ix2 0 l) * P (o + r.val) l + d1 (ix2 0 l) * P (o + r.val + 1) l + d2 (ix2 0 l) * P (o + r.val + 2) l + b (ix2 0 l) := by
  have e1 : shifted 1#32 p u (ix2 r l) = P (o + r.val + 1) l := by
    rw [shifted_apply 1#32 1 rfl (by omega)]
    by_cases hr : 1 ≤ r.val
    · rw [dif_pos hr, hu]; congr 1; show o + (r.val - 1) + 2 = _; omega
    · rw [dif_neg hr]
      have h0 : r.val = 0 := by omega
      have : (⟨8 + r.val - 1, by omega⟩ : Fin 8) = 7 := Fin.ext (by show 8 + r.val - 1 = 7; omega)
      rw [this, h7, h0]
  have e2 : shifted 2#32 p u (ix2 r l) = P (o + r.val) l := by
    rw [shifted_apply 2#32 2 rfl (by omega)]
    by_cases hr : 2 ≤ r.val
    · rw [dif_pos hr, hu]; congr 1; show o + (r.val - 2) + 2 = _; omega
    · rw [dif_neg hr]
      rcases (show r.val = 0 ∨ r.val = 1 by omega) with h0 | h0
      · have : (⟨8 + r.val - 2, by omega⟩ : Fin 8) = 6 := Fin.ext (by show 8 + r.val - 2 = 6; omega)
        rw [this, h6, h0, Nat.add_zero]
      · have : (⟨8 + r.val - 2, by omega⟩ : Fin 8) = 7 := Fin.ext (by show 8 + r.val - 2 = 7; omega)
        rw [this, h7, h0]
  show rep b (ix2 r l) + u (ix2 r l) * rep d2 (ix2 r l) + shifted 1#32 p u (ix2 r l) * rep d1 (ix2 r l) + shifted 2#32 p u (ix2 r l) * rep d0 (ix2 r l) = _
  rw [e1, e2, hu, rep_apply, rep_apply, rep_apply, rep_apply]
  rw [mul_comm (d0 _), mul_comm (d1 _), mul_comm (d2 _)]
  generalize P (o + r.val) l * d0 (ix2 0 l) = x
  generalize P (o + r.val + 1) l * d1 (ix2 0 l) = y
  generalize P (o + r.val + 2) l * d2 (ix2 0 l) = z
  generalize b (ix2 0 l) = v
  change (v + z + y + x : EReal) = x + y + z + v
  rw [add_comm (v + z + y) x, add_assoc v z y, add_comm v (z + y), add_comm z y, ← add_assoc, ← add_assoc]

/-- The taps of one column of a block, in the order of the rows they weigh, and its bias. -/
def mix (D : Vec Ideal S8x512 .f32) (B : Vec Ideal S1x512 .f32) (P : ℕ → Fin 512 → EReal) (n : ℕ) (l : Fin 512) : EReal :=
  D (ix2 0 l) * P n l + D (ix2 1 l) * P (n + 1) l + D (ix2 2 l) * P (n + 2) l + B (ix2 0 l)

theorem convOf_apply (P : ℕ → Fin 512 → EReal) (o : ℕ) (D : Vec Ideal S8x512 .f32) (B : Vec Ideal S1x512 .f32) (p : FVec Ideal S8x512 .f32) (u : FVec Ideal S256x512 .f32)
    (hu : ∀ (r : Fin 256) l, u (ix2 r l) = P (o + r.val + 2) l) (h6 : ∀ l, p (ix2 6 l) = P o l) (h7 : ∀ l, p (ix2 7 l) = P (o + 1) l)
    (r : Fin 256) (l : Fin 512) : convOf D B p u (ix2 r l) = mix D B P (o + r.val) l := by
  unfold convOf
  rw [conv_apply P o p u _ _ _ _ hu h6 h7]
  unfold mix View.ld
  congr 1
  · congr 1
    · congr 1
      · congr 2; exact idx_ext (by show 0 + 1 * 0 = 0; rfl) (by show 0 + 1 * l.val = l.val; omega)
      · congr 2; exact idx_ext (by show 1 + 1 * 0 = 1; rfl) (by show 0 + 1 * l.val = l.val; omega)
    · congr 2; exact idx_ext (by show 2 + 1 * 0 = 2; rfl) (by show 0 + 1 * l.val = l.val; omega)
  · congr 1; exact idx_ext (by show 0 + 1 * 0 = 0; rfl) (by show 0 + 1 * l.val = l.val; omega)

theorem gate_apply (g a : FVec Ideal S256x512 .f32) (i : S256x512.Idx) : gate g a i = g i * sigmoid (g i) * a i := by
  pointwise [gate, sigmoid]
  rw [sub_eq_add_neg, zero_add]

theorem strip_apply (P Q : ℕ → Fin 512 → EReal) (o : ℕ) (X5 X6 : Vec Ideal S8x512 .f32) (X7 X8 : Vec Ideal S1x512 .f32) (p q : FVec Ideal S8x512 .f32) (u v : FVec Ideal S256x512 .f32)
    (hu : ∀ (r : Fin 256) l, u (ix2 r l) = P (o + r.val + 2) l) (h6 : ∀ l, p (ix2 6 l) = P o l) (h7 : ∀ l, p (ix2 7 l) = P (o + 1) l)
    (hv : ∀ (r : Fin 256) l, v (ix2 r l) = Q (o + r.val + 2) l) (k6 : ∀ l, q (ix2 6 l) = Q o l) (k7 : ∀ l, q (ix2 7 l) = Q (o + 1) l)
    (r : Fin 256) (l : Fin 512) :
    strip X5 X6 X7 X8 p q u v (ix2 r l) = mix X6 X8 Q (o + r.val) l * sigmoid (mix X6 X8 Q (o + r.val) l) * mix X5 X7 P (o + r.val) l := by
  unfold strip
  rw [gate_apply, convOf_apply P o X5 X7 p u hu h6 h7, convOf_apply Q o X6 X8 q v hv k6 k7]

theorem prod_apply (W : Vec Ideal S2048x512 .bf16) (X : Vec Ideal S256x2048 .bf16) (r : Fin 256) (l : Fin 512) :
    prod W X (ix2 r l) = ∑ k : Fin 2048, X (ix2 r k) * W (ix2 k l) := by
  pointwise [prod]

theorem last8_apply (u : FVec Ideal S256x512 .f32) (r : Fin 8) (l : Fin 512) : last8 u (ix2 r l) = u (ix2 (⟨248 + r.val, by omega⟩ : Fin 256) l) := by
  pointwise [last8]

/-! ## One block -/

section Block

variable (P Q : ℕ → Fin 512 → EReal) (X2 : Vec Ideal S1024x2048 .bf16) (X3 X4 : Vec Ideal S2048x512 .bf16) (X5 X6 : Vec Ideal S8x512 .f32)
  (X7 X8 : Vec Ideal S1x512 .f32) (p q : FVec Ideal S8x512 .f32)

/-- A block of the weights is loaded whole. -/
theorem whole_apply (W : Vec Ideal S2048x512 .bf16) (k : Fin 2048) (l : Fin 512) : whole W (ix2 k l) = W (ix2 k l) := by
  show W _ = W _
  congr 1
  exact idx_ext (by show 0 + 1 * k.val = k.val; omega) (by show 0 + 1 * l.val = l.val; omega)

theorem strip0_prod (hP : ∀ (n : Fin 1024) l, ∑ k : Fin 2048, X2 (ix2 n k) * X3 (ix2 k l) = P (n.val + 2) l) (r : Fin 256) (l : Fin 512) :
    prod (whole X3) (strip0 X2) (ix2 r l) = P (0 + r.val + 2) l := by
  rw [prod_apply, ← hP ⟨0 + r.val, by omega⟩ l]
  refine Finset.sum_congr rfl fun k _ => ?_
  rw [whole_apply]
  congr 1
  show X2 _ = X2 _
  congr 1
  exact idx_ext (by show 0 + 1 * r.val = 0 + r.val; omega) (by show 0 + 1 * k.val = k.val; omega)

theorem strip1_prod (hP : ∀ (n : Fin 1024) l, ∑ k : Fin 2048, X2 (ix2 n k) * X3 (ix2 k l) = P (n.val + 2) l) (r : Fin 256) (l : Fin 512) :
    prod (whole X3) (strip1 X2) (ix2 r l) = P (256 + r.val + 2) l := by
  rw [prod_apply, ← hP ⟨256 + r.val, by omega⟩ l]
  refine Finset.sum_congr rfl fun k _ => ?_
  rw [whole_apply]
  congr 1
  show X2 _ = X2 _
  congr 1
  exact idx_ext (by show 256 + 1 * r.val = 256 + r.val; omega) (by show 0 + 1 * k.val = k.val; omega)

theorem strip2_prod (hP : ∀ (n : Fin 1024) l, ∑ k : Fin 2048, X2 (ix2 n k) * X3 (ix2 k l) = P (n.val + 2) l) (r : Fin 256) (l : Fin 512) :
    prod (whole X3) (strip2 X2) (ix2 r l) = P (512 + r.val + 2) l := by
  rw [prod_apply, ← hP ⟨512 + r.val, by omega⟩ l]
  refine Finset.sum_congr rfl fun k _ => ?_
  rw [whole_apply]
  congr 1
  show X2 _ = X2 _
  congr 1
  exact idx_ext (by show 512 + 1 * r.val = 512 + r.val; omega) (by show 0 + 1 * k.val = k.val; omega)

theorem strip3_prod (hP : ∀ (n : Fin 1024) l, ∑ k : Fin 2048, X2 (ix2 n k) * X3 (ix2 k l) = P (n.val + 2) l) (r : Fin 256) (l : Fin 512) :
    prod (whole X3) (strip3 X2) (ix2 r l) = P (768 + r.val + 2) l := by
  rw [prod_apply, ← hP ⟨768 + r.val, by omega⟩ l]
  refine Finset.sum_congr rfl fun k _ => ?_
  rw [whole_apply]
  congr 1
  show X2 _ = X2 _
  congr 1
  exact idx_ext (by show 768 + 1 * r.val = 768 + r.val; omega) (by show 0 + 1 * k.val = k.val; omega)

theorem last8_six (o : ℕ) (u : FVec Ideal S256x512 .f32) (hu : ∀ (r : Fin 256) l, u (ix2 r l) = P (o + r.val + 2) l) (l : Fin 512) :
    last8 u (ix2 6 l) = P (o + 256) l :=
  (last8_apply ..).trans ((hu ..).trans (congrArg (fun n => P n l) (by show o + (248 + 6) + 2 = o + 256; omega)))

theorem last8_seven (o : ℕ) (u : FVec Ideal S256x512 .f32) (hu : ∀ (r : Fin 256) l, u (ix2 r l) = P (o + r.val + 2) l) (l : Fin 512) :
    last8 u (ix2 7 l) = P (o + 256 + 1) l :=
  (last8_apply ..).trans ((hu ..).trans (congrArg (fun n => P n l) (by show o + (248 + 7) + 2 = o + 256 + 1; omega)))

/-- A stored strip at an index of the block that it holds. -/
theorem piece_apply (o : ℕ) (inb) (f : FVec Ideal S256x512 .f32) (g : ℕ → Fin 512 → EReal) (hf : ∀ (r : Fin 256) l, f (ix2 r l) = g (o + r.val) l)
    (x : S256x512.Idx) (n : Fin 1024) (l : Fin 512) (hx : (Rect.unit (s := S1024x512) ![o, 0] S256x512.size inb).emb x = ix2 n l) :
    f x = g n.val l := by
  have e0 : o + 1 * (x 0).val = n.val := congrArg (fun y : S1024x512.Idx => (y 0).val) hx
  have e1 : 0 + 1 * (x 1).val = l.val := congrArg (fun y : S1024x512.Idx => (y 1).val) hx
  have e : (x 1 : Fin 512) = l := Fin.ext (by omega)
  have e2 : f x = f (ix2 (x 0 : Fin 256) (x 1 : Fin 512)) := congrArg f (eq_ix2 x)
  exact e2.trans ((hf _ _).trans (congrArg₂ g (by show o + (x 0).val = n.val; omega) e))

/-- The result block at an index, where the products and the rows before them are consecutive rows of `P` and `Q`. -/
theorem outBlock_apply
    (hP : ∀ (n : Fin 1024) l, ∑ k : Fin 2048, X2 (ix2 n k) * X3 (ix2 k l) = P (n.val + 2) l)
    (hQ : ∀ (n : Fin 1024) l, ∑ k : Fin 2048, X2 (ix2 n k) * X4 (ix2 k l) = Q (n.val + 2) l)
    (p6 : ∀ l, p (ix2 6 l) = P 0 l) (p7 : ∀ l, p (ix2 7 l) = P 1 l) (q6 : ∀ l, q (ix2 6 l) = Q 0 l) (q7 : ∀ l, q (ix2 7 l) = Q 1 l)
    (n : Fin 1024) (l : Fin 512) :
    outBlock X2 X3 X4 X5 X6 X7 X8 p q (ix2 n l) = mix X6 X8 Q n.val l * sigmoid (mix X6 X8 Q n.val l) * mix X5 X7 P n.val l := by
  have a0 := strip0_prod P X2 X3 hP
  have a1 := strip1_prod P X2 X3 hP
  have a2 := strip2_prod P X2 X3 hP
  have a3 := strip3_prod P X2 X3 hP
  have b0 := strip0_prod Q X2 X4 hQ
  have b1 := strip1_prod Q X2 X4 hQ
  have b2 := strip2_prod Q X2 X4 hQ
  have b3 := strip3_prod Q X2 X4 hQ
  unfold outBlock
  refine View.canon_eq_of_allAt _ _ _ (fill _ _ _ _ _) ?_
  intro pc hpc
  simp only [List.mem_cons, List.not_mem_nil, or_false] at hpc
  rcases hpc with rfl | rfl | rfl | rfl <;> intro x hx
  · refine piece_apply 768 inb_S1024x512_S256x512_768_0 _ (fun j l => mix X6 X8 Q j l * sigmoid (mix X6 X8 Q j l) * mix X5 X7 P j l) (fun r l => ?_) x n l hx
    exact strip_apply P Q 768 X5 X6 X7 X8 _ _ _ _ a3 (last8_six P 512 _ a2) (last8_seven P 512 _ a2) b3 (last8_six Q 512 _ b2) (last8_seven Q 512 _ b2) r l
  · refine piece_apply 512 inb_S1024x512_S256x512_512_0 _ (fun j l => mix X6 X8 Q j l * sigmoid (mix X6 X8 Q j l) * mix X5 X7 P j l) (fun r l => ?_) x n l hx
    exact strip_apply P Q 512 X5 X6 X7 X8 _ _ _ _ a2 (last8_six P 256 _ a1) (last8_seven P 256 _ a1) b2 (last8_six Q 256 _ b1) (last8_seven Q 256 _ b1) r l
  · refine piece_apply 256 inb_S1024x512_S256x512_256_0 _ (fun j l => mix X6 X8 Q j l * sigmoid (mix X6 X8 Q j l) * mix X5 X7 P j l) (fun r l => ?_) x n l hx
    exact strip_apply P Q 256 X5 X6 X7 X8 _ _ _ _ a1 (last8_six P 0 _ a0) (last8_seven P 0 _ a0) b1 (last8_six Q 0 _ b0) (last8_seven Q 0 _ b0) r l
  · refine piece_apply 0 inb_S1024x512_S256x512_0_0 _ (fun j l => mix X6 X8 Q j l * sigmoid (mix X6 X8 Q j l) * mix X5 X7 P j l) (fun r l => ?_) x n l hx
    exact strip_apply P Q 0 X5 X6 X7 X8 _ _ _ _ a0 p6 p7 b0 q6 q7 r l

end Block

/-! ## The arrays -/

theorem index0 : ∀ t : Fin cfg0.N, win0_0.index t = ![t.val / 11, 0] := (by decide +kernel : ∀ t : Fin grid0.N, _)
theorem index1 : ∀ t : Fin cfg0.N, win0_1.index t = ![0, t.val % 11] := (by decide +kernel : ∀ t : Fin grid0.N, _)
theorem index2 : ∀ t : Fin cfg0.N, win0_2.index t = ![0, 11 + t.val % 11] := (by decide +kernel : ∀ t : Fin grid0.N, _)
theorem index3 : ∀ t : Fin cfg0.N, win0_3.index t = ![0, t.val % 11] := (by decide +kernel : ∀ t : Fin grid0.N, _)
theorem index4 : ∀ t : Fin cfg0.N, win0_4.index t = ![0, 11 + t.val % 11] := (by decide +kernel : ∀ t : Fin grid0.N, _)
theorem index5 : ∀ t : Fin cfg0.N, win0_5.index t = ![0, t.val % 11] := (by decide +kernel : ∀ t : Fin grid0.N, _)
theorem index6 : ∀ t : Fin cfg0.N, win0_6.index t = ![0, 11 + t.val % 11] := (by decide +kernel : ∀ t : Fin grid0.N, _)
theorem index7 : ∀ t : Fin cfg0.N, win0_7.index t = ![t.val / 11, t.val % 11] := (by decide +kernel : ∀ t : Fin grid0.N, _)

variable (m : (ℓ : Loc nD τ sig) → Buf (Elt Ideal) ℓ)

/-- The taps as the call finds them: the argument's three rows, rows of zeros below. -/
theorem taps_eq (c : Dev nD) (k : Fin 3) (l : Fin 11264) :
    V m c main_v1 (ix2 (⟨k.val, by omega⟩ : Fin 8) l) = m ((c : Thread nD τ).loc main_arg2) (ix2 k l) := by
  have h : V m c main_v1
      = concatenate S8x11264 0 [⟨S3x11264, m ((c : Thread nD τ).loc main_arg2)⟩,
          ⟨S5x11264, broadcastInDim S5x11264 ![] bcast_S_S5x11264 (constant (F := Ideal) S_ .f32 0x00000000#32)⟩] concatenates_S3x11264_S5x11264_S8x11264_d0 := by
    unfold V
    after_results
  rw [h]
  exact concatenate_pair_apply_left (t := S8x11264) (s₁ := S3x11264) (s₂ := S5x11264) (0 : Fin 2) _ _ _ _ rfl (ix2 k l) (by
    intro b
    match b with
    | ⟨0, _⟩ => rfl
    | ⟨1, _⟩ => rfl)

/-- The bias as the call finds it: the argument as one row. -/
theorem bias_eq (c : Dev nD) (l : Fin 11264) : V m c main_v2 (ix2 0 l) = m ((c : Thread nD τ).loc main_arg3) (ix1 l) := by
  have h : V m c main_v2 = shapeCast S1x11264 (m ((c : Thread nD τ).loc main_arg3)) shapeCasts_S11264_S1x11264 := by
    unfold V
    after_results
    rfl
  rw [h]
  exact (shapeCast_addUnit_apply ![11264] _ _ (ix2 (0 : Fin 1) l)).trans (congrArg _ (funext fun a => by fin_cases a; rfl))

/-- One column's place in its half of the weights. -/
abbrev lowCol (t : Fin cfg0.N) (l : Fin 512) : Fin 11264 := ⟨512 * (t.val % 11) + l.val, by have := l.isLt; omega⟩

/-- The same column's place in the other half. -/
abbrev highCol (t : Fin cfg0.N) (l : Fin 512) : Fin 11264 := ⟨512 * (11 + t.val % 11) + l.val, by have := l.isLt; omega⟩

/-- The product's rows from point `t`'s first on, two rows before them. -/
def low (c : Dev nD) (t : Fin cfg0.N) (n : ℕ) (l : Fin 512) : EReal :=
  padded (m ((c : Thread nD τ).loc main_arg0)) (m ((c : Thread nD τ).loc main_arg1)) (1024 * (t.val / 11) + n) (lowCol t l)

/-- The same of the other half. -/
def high (c : Dev nD) (t : Fin cfg0.N) (n : ℕ) (l : Fin 512) : EReal :=
  padded (m ((c : Thread nD τ).loc main_arg0)) (m ((c : Thread nD τ).loc main_arg1)) (1024 * (t.val / 11) + n) (highCol t l)

/-- The block of the hidden rows at a point, and the two blocks of the weights. -/
abbrev hidBlk (c : Dev nD) (t : Fin cfg0.N) : Vec Ideal S1024x2048 .bf16 := iblk m c 0 t
abbrev lowBlk (c : Dev nD) (t : Fin cfg0.N) : Vec Ideal S2048x512 .bf16 := iblk m c 1 t
abbrev highBlk (c : Dev nD) (t : Fin cfg0.N) : Vec Ideal S2048x512 .bf16 := iblk m c 2 t

theorem low_prod (c : Dev nD) (t : Fin cfg0.N) (n : Fin 1024) (l : Fin 512) :
    ∑ k : Fin 2048, hidBlk m c t (ix2 n k) * lowBlk m c t (ix2 k l) = low m c t (n.val + 2) l := by
  have ht : t.val < 176 := t.isLt
  unfold low padded
  rw [dif_pos ⟨by omega, by omega⟩]
  refine Finset.sum_congr rfl fun k _ => ?_
  blk_simp [hidBlk, lowBlk, highBlk, iblk]
  congr 2
  · blk_ext [index0 t]
  · blk_ext [index1 t]

theorem high_prod (c : Dev nD) (t : Fin cfg0.N) (n : Fin 1024) (l : Fin 512) :
    ∑ k : Fin 2048, hidBlk m c t (ix2 n k) * highBlk m c t (ix2 k l) = high m c t (n.val + 2) l := by
  have ht : t.val < 176 := t.isLt
  unfold high padded
  rw [dif_pos ⟨by omega, by omega⟩]
  refine Finset.sum_congr rfl fun k _ => ?_
  blk_simp [hidBlk, lowBlk, highBlk, iblk]
  congr 2
  · blk_ext [index0 t]
  · blk_ext [index2 t]

/-- What a kept part of a product starts the next row of blocks with. -/
theorem start_apply (t : Fin cfg0.N) (w : FVec Ideal S1x8x512 .f32) (k : Fin 8) (l : Fin 512) :
    start (grid0.coords t) w (ix2 k l) = if t.val < 11 then 0 else w (ix3 0 k l) := by
  unfold start
  by_cases h : t.val < 11
  · rw [if_pos h, if_pos ((first_iff t).2 h)]
    pointwise
  · rw [if_neg h, if_neg (fun e => h ((first_iff t).1 e))]
    exact (shapeCast_dropUnit_apply ![8, 512] _ _ _).trans (congrArg w (funext fun a => by fin_cases a <;> rfl))

theorem keep_apply (W : Vec Ideal S2048x512 .bf16) (X : Vec Ideal S1024x2048 .bf16) (k : Fin 8) (l : Fin 512) :
    keep W X (ix3 0 k l) = last8 (prod (whole W) (strip3 X)) (ix2 k l) :=
  (shapeCast_addUnit_apply ![8, 512] _ _ _).trans (congrArg _ (funext fun a => by fin_cases a <;> rfl))

theorem padded_start {h : S16384x2048.Idx → EReal} {w : S2048x11264.Idx → EReal} (n : ℕ) (l : Fin 11264) (hn : n < 2) : padded h w n l = 0 := by
  unfold padded
  exact dif_neg (by omega)

theorem low_six (c : Dev nD) (t : Fin cfg0.N) (l : Fin 512) : start (grid0.coords t) (keepA m c (up t)) (ix2 6 l) = low m c t 0 l := by
  rw [start_apply]
  by_cases h : t.val < 11
  · rw [if_pos h]
    exact (padded_start _ _ (by omega)).symm
  · rw [if_neg h]
    have ht : t.val < 176 := t.isLt
    have hu : (up t).val = t.val - 11 := rfl
    refine (keep_apply ..).trans ((last8_six (low m c (up t)) 768 _ (strip3_prod _ _ _ (low_prod m c (up t))) l).trans ?_)
    unfold low
    congr 1
    · omega
    · exact Fin.ext (by show 512 * ((up t).val % 11) + l.val = 512 * (t.val % 11) + l.val; omega)

theorem low_seven (c : Dev nD) (t : Fin cfg0.N) (l : Fin 512) : start (grid0.coords t) (keepA m c (up t)) (ix2 7 l) = low m c t 1 l := by
  rw [start_apply]
  by_cases h : t.val < 11
  · rw [if_pos h]
    exact (padded_start _ _ (by omega)).symm
  · rw [if_neg h]
    have ht : t.val < 176 := t.isLt
    have hu : (up t).val = t.val - 11 := rfl
    refine (keep_apply ..).trans ((last8_seven (low m c (up t)) 768 _ (strip3_prod _ _ _ (low_prod m c (up t))) l).trans ?_)
    unfold low
    congr 1
    · omega
    · exact Fin.ext (by show 512 * ((up t).val % 11) + l.val = 512 * (t.val % 11) + l.val; omega)

theorem high_six (c : Dev nD) (t : Fin cfg0.N) (l : Fin 512) : start (grid0.coords t) (keepG m c (up t)) (ix2 6 l) = high m c t 0 l := by
  rw [start_apply]
  by_cases h : t.val < 11
  · rw [if_pos h]
    exact (padded_start _ _ (by omega)).symm
  · rw [if_neg h]
    have ht : t.val < 176 := t.isLt
    have hu : (up t).val = t.val - 11 := rfl
    refine (keep_apply ..).trans ((last8_six (high m c (up t)) 768 _ (strip3_prod _ _ _ (high_prod m c (up t))) l).trans ?_)
    unfold high
    congr 1
    · omega
    · exact Fin.ext (by show 512 * (11 + (up t).val % 11) + l.val = 512 * (11 + t.val % 11) + l.val; omega)

theorem high_seven (c : Dev nD) (t : Fin cfg0.N) (l : Fin 512) : start (grid0.coords t) (keepG m c (up t)) (ix2 7 l) = high m c t 1 l := by
  rw [start_apply]
  by_cases h : t.val < 11
  · rw [if_pos h]
    exact (padded_start _ _ (by omega)).symm
  · rw [if_neg h]
    have ht : t.val < 176 := t.isLt
    have hu : (up t).val = t.val - 11 := rfl
    refine (keep_apply ..).trans ((last8_seven (high m c (up t)) 768 _ (strip3_prod _ _ _ (high_prod m c (up t))) l).trans ?_)
    unfold high
    congr 1
    · omega
    · exact Fin.ext (by show 512 * (11 + (up t).val % 11) + l.val = 512 * (11 + t.val % 11) + l.val; omega)

theorem low_taps (c : Dev nD) (t : Fin cfg0.N) (k : Fin 3) (l : Fin 512) :
    iblk m c 3 t (ix2 (⟨k.val, by omega⟩ : Fin 8) l) = m ((c : Thread nD τ).loc main_arg2) (ix2 k (lowCol t l)) := by
  refine Eq.trans ?_ (taps_eq m c _ _)
  show V m c main_v1 _ = V m c main_v1 _
  congr 1
  blk_ext [index3 t]

theorem high_taps (c : Dev nD) (t : Fin cfg0.N) (k : Fin 3) (l : Fin 512) :
    iblk m c 4 t (ix2 (⟨k.val, by omega⟩ : Fin 8) l) = m ((c : Thread nD τ).loc main_arg2) (ix2 k (highCol t l)) := by
  refine Eq.trans ?_ (taps_eq m c _ _)
  show V m c main_v1 _ = V m c main_v1 _
  congr 1
  blk_ext [index4 t]

theorem low_bias (c : Dev nD) (t : Fin cfg0.N) (l : Fin 512) :
    iblk m c 5 t (ix2 0 l) = m ((c : Thread nD τ).loc main_arg3) (ix1 (lowCol t l)) := by
  refine Eq.trans ?_ (bias_eq m c _)
  show V m c main_v2 _ = V m c main_v2 _
  congr 1
  blk_ext [index5 t]

theorem high_bias (c : Dev nD) (t : Fin cfg0.N) (l : Fin 512) :
    iblk m c 6 t (ix2 0 l) = m ((c : Thread nD τ).loc main_arg3) (ix1 (highCol t l)) := by
  refine Eq.trans ?_ (bias_eq m c _)
  show V m c main_v2 _ = V m c main_v2 _
  congr 1
  blk_ext [index6 t]

theorem low_mix (c : Dev nD) (t : Fin cfg0.N) (n : ℕ) (l : Fin 512) :
    mix (iblk m c 3 t) (iblk m c 5 t) (low m c t) n l
    = tap (m ((c : Thread nD τ).loc main_arg0)) (m ((c : Thread nD τ).loc main_arg1)) (m ((c : Thread nD τ).loc main_arg2))
        (m ((c : Thread nD τ).loc main_arg3)) (1024 * (t.val / 11) + n) (lowCol t l) := by
  unfold mix tap
  rw [show iblk m c 3 t (ix2 0 l) = _ from low_taps m c t 0 l, show iblk m c 3 t (ix2 1 l) = _ from low_taps m c t 1 l,
    show iblk m c 3 t (ix2 2 l) = _ from low_taps m c t 2 l, low_bias]
  rfl

theorem high_mix (c : Dev nD) (t : Fin cfg0.N) (n : ℕ) (l : Fin 512) :
    mix (iblk m c 4 t) (iblk m c 6 t) (high m c t) n l
    = tap (m ((c : Thread nD τ).loc main_arg0)) (m ((c : Thread nD τ).loc main_arg1)) (m ((c : Thread nD τ).loc main_arg2))
        (m ((c : Thread nD τ).loc main_arg3)) (1024 * (t.val / 11) + n) (highCol t l) := by
  unfold mix tap
  rw [show iblk m c 4 t (ix2 0 l) = _ from high_taps m c t 0 l, show iblk m c 4 t (ix2 1 l) = _ from high_taps m c t 1 l,
    show iblk m c 4 t (ix2 2 l) = _ from high_taps m c t 2 l, high_bias]
  rfl

/-- The result block at a point, at an index. -/
theorem outAt_apply (c : Dev nD) (t : Fin cfg0.N) (n : Fin 1024) (l : Fin 512) : outAt m c t (ix2 n l)
    = tap (m ((c : Thread nD τ).loc main_arg0)) (m ((c : Thread nD τ).loc main_arg1)) (m ((c : Thread nD τ).loc main_arg2))
          (m ((c : Thread nD τ).loc main_arg3)) (1024 * (t.val / 11) + n.val) (highCol t l)
        * sigmoid (tap (m ((c : Thread nD τ).loc main_arg0)) (m ((c : Thread nD τ).loc main_arg1)) (m ((c : Thread nD τ).loc main_arg2))
          (m ((c : Thread nD τ).loc main_arg3)) (1024 * (t.val / 11) + n.val) (highCol t l))
      * tap (m ((c : Thread nD τ).loc main_arg0)) (m ((c : Thread nD τ).loc main_arg1)) (m ((c : Thread nD τ).loc main_arg2))
          (m ((c : Thread nD τ).loc main_arg3)) (1024 * (t.val / 11) + n.val) (lowCol t l) := by
  refine (outBlock_apply (low m c t) (high m c t) _ _ _ _ _ _ _ _ _ (low_prod m c t) (high_prod m c t) (low_six m c t) (low_seven m c t)
    (high_six m c t) (high_seven m c t) n l).trans ?_
  rw [low_mix, high_mix]

/-- The result array after the run. -/
theorem final (c : Dev nD) : (dats m 0 c).arrAt 7 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  have ht : t.val < 176 := t.isLt
  blk_simp
  rw [after7]
  refine (congrArg (outAt m c t) (show y = ix2 (y 0 : Fin 1024) (y 1 : Fin 512) from eq_ix2 y)).trans ?_
  refine (outAt_apply m c t _ _).trans ?_
  have e0 : 1024 * (t.val / 11) + (y 0).val = ((win0_7.blk t).view.emb y 0).val := by
    blk_simp [index7 t]
    omega
  have e1 : 512 * (t.val % 11) + (y 1).val = ((win0_7.blk t).view.emb y 1).val := by
    blk_simp [index7 t]
    omega
  have b1 : ((win0_7.blk t).view.emb y 1).val < 5632 := ((win0_7.blk t).view.emb y 1).isLt
  have c0 : lowCol t (y 1) = ⟨((win0_7.blk t).view.emb y 1).val, by omega⟩ := Fin.ext e1
  have c1 : highCol t (y 1) = ⟨5632 + ((win0_7.blk t).view.emb y 1).val, by omega⟩ :=
    Fin.ext (by show 512 * (11 + t.val % 11) + (y 1).val = 5632 + ((win0_7.blk t).view.emb y 1).val; omega)
  exact congrArg₂ (· * ·) (congrArg₂ (· * ·) (congrArg₂ _ e0 c1) (congrArg sigmoid (congrArg₂ _ e0 c1))) (congrArg₂ _ e0 c0)

end Cert.Proof.Up
-- ==== Proof.Up.lean ====
/- The claims on the feed-forward up projection: it runs and leaves its arguments, and it computes what its reference computes. -/
module

public import proofs.«01_k».proof.Defs
public import proofs.«01_k».proof.Proof.UpValue
public import proofs.«01_k».proof.Proof.UpLaunch
public import proofs.«01_k».proof.Proof.UpLaunchIdeal
public import proofs.«01_k».proof.Proof.Gen.Reference7Ideal.Run
public import Idealize.ShloMosaic.Lib.Pipeline.ValueKit
public import Idealize.ShloMosaic.Lib.KernelVsHost
public import Idealize.ShloMosaic.Lib.Pointwise

@[expose] public section

set_option maxRecDepth 16384

noncomputable section

namespace Cert.Proof.Up

open Idealize.ShloMosaic Idealize.ShloMosaic.TcCoe Idealize.SL.Sem

section Ref

open Cert.Reference7Ideal Cert.Reference7Ideal.Facts₀ Cert.Reference7Ideal.Facts

variable (h : FVec Ideal S16384x2048 .bf16) (w : FVec Ideal S2048x11264 .bf16) (d : FVec Ideal S3x11264 .f32) (b : FVec Ideal S11264 .f32)

/-- The reference's product. -/
def refProd : FVec Ideal S16384x11264 .f32 :=
  Host.dotGeneral dot_S16384x2048_S2048x11264_S16384x11264_1_0_0_1_n_n none (extf .f32 h bitsLt_bf16_f32) (extf .f32 w bitsLt_bf16_f32)

/-- The product with two rows of zeros before it. -/
def refPad : FVec Ideal S16386x11264 .f32 :=
  pad S16386x11264 ![2, 0] ![0, 0] ![0, 0] (refProd h w) (sitofp .f32 (constantI S_ 32 0#32)) pads_S16384x11264_S16386x11264_200_000 h_S_

/-- The convolution of a padded product. -/
def refConv (u : FVec Ideal S16386x11264 .f32) : FVec Ideal S16384x11264 .f32 :=
  addf (addf (addf
    (mulf (broadcastInDim S16384x11264 ![0, 1] bcast_S1x11264_S16384x11264_0_1 (extractStridedSlice S1x11264 ![0, 0] d slices_S3x11264_S1x11264_0_0))
      (extractStridedSlice S16384x11264 ![0, 0] u slices_S16386x11264_S16384x11264_0_0))
    (mulf (broadcastInDim S16384x11264 ![0, 1] bcast_S1x11264_S16384x11264_0_1 (extractStridedSlice S1x11264 ![1, 0] d slices_S3x11264_S1x11264_1_0))
      (extractStridedSlice S16384x11264 ![1, 0] u slices_S16386x11264_S16384x11264_1_0)))
    (mulf (broadcastInDim S16384x11264 ![0, 1] bcast_S1x11264_S16384x11264_0_1 (extractStridedSlice S1x11264 ![2, 0] d slices_S3x11264_S1x11264_2_0))
      (extractStridedSlice S16384x11264 ![2, 0] u slices_S16386x11264_S16384x11264_2_0)))
    (broadcastInDim S16384x11264 ![0, 1] bcast_S1x11264_S16384x11264_0_1 (broadcastInDim S1x11264 ![1] bcast_S11264_S1x11264_1 b))

/-- The gating of a convolution. -/
def refGate (g : FVec Ideal S16384x11264 .f32) : FVec Ideal S16384x5632 .bf16 :=
  truncf .bf16 (mulf (mulf (extractStridedSlice S16384x5632 ![0, 5632] g slices_S16384x11264_S16384x5632_0_5632)
      (Host.divf (broadcastInDim S16384x5632 ![] bcast_S_S16384x5632 (constant S_ .f32 0x3F800000#32))
        (addf (broadcastInDim S16384x5632 ![] bcast_S_S16384x5632 (constant S_ .f32 0x3F800000#32))
          (Host.exp (Host.negf (extractStridedSlice S16384x5632 ![0, 5632] g slices_S16384x11264_S16384x5632_0_5632))))))
    (extractStridedSlice S16384x5632 ![0, 0] g slices_S16384x11264_S16384x5632_0_0)) bitsLt_bf16_f32

theorem refProd_apply (n : Fin 16384) (l : Fin 11264) : refProd h w (ix2 n l) = ∑ k : Fin 2048, h (ix2 n k) * w (ix2 k l) := by
  pointwise [refProd]

theorem refPad_apply (n : Fin 16386) (l : Fin 11264) : refPad h w (ix2 n l) = padded h w n.val l := by
  have hn := n.isLt
  unfold refPad padded
  by_cases h2 : 2 ≤ n.val
  · rw [dif_pos ⟨h2, by omega⟩]
    refine (pad_apply_of_inside _ _ _ _ _ _ _ _ (ix2 (⟨n.val - 2, by omega⟩ : Fin 16384) l) ?_).trans (refProd_apply h w _ l)
    intro a
    match a with
    | ⟨0, _⟩ => show n.val = 2 + (n.val - 2) * (0 + 1); omega
    | ⟨1, _⟩ => show l.val = 0 + l.val * (0 + 1); omega
  · rw [dif_neg (by omega)]
    refine (pad_apply_of_not_inside _ _ _ _ _ _ _ _ (0 : Fin 2) (fun e => h2 e.1)).trans ?_
    show ((((0#32 : BitVec 32).toInt : ℝ)) : EReal) = 0
    simp

theorem refConv_apply (u : FVec Ideal S16386x11264 .f32) (n : Fin 16384) (l : Fin 11264) : refConv d b u (ix2 n l)
    = d (ix2 0 l) * u (ix2 (⟨n.val, by omega⟩ : Fin 16386) l) + d (ix2 1 l) * u (ix2 (⟨1 + n.val, by omega⟩ : Fin 16386) l)
      + d (ix2 2 l) * u (ix2 (⟨2 + n.val, by omega⟩ : Fin 16386) l) + b (ix1 l) := by
  pointwise [refConv]

theorem refConv_tap (n : Fin 16384) (l : Fin 11264) : refConv d b (refPad h w) (ix2 n l) = tap h w d b n.val l := by
  rw [refConv_apply, refPad_apply, refPad_apply, refPad_apply]
  show d (ix2 0 l) * padded h w n.val l + d (ix2 1 l) * padded h w (1 + n.val) l + d (ix2 2 l) * padded h w (2 + n.val) l + b (ix1 l) = _
  rw [Nat.add_comm 1, Nat.add_comm 2]
  rfl

theorem refGate_apply (g : FVec Ideal S16384x11264 .f32) (n : Fin 16384) (l : Fin 5632) : refGate g (ix2 n l)
    = g (ix2 n (⟨5632 + l.val, by omega⟩ : Fin 11264)) * sigmoid (g (ix2 n (⟨5632 + l.val, by omega⟩ : Fin 11264)))
      * g (ix2 n (⟨l.val, by omega⟩ : Fin 11264)) := by
  pointwise [refGate, sigmoid]

theorem ref_result : refGate (refConv d b (refPad h w)) = result h w d b := by
  have e : ∀ (n : Fin 16384) (l : Fin 5632), refGate (refConv d b (refPad h w)) (ix2 n l) = result h w d b (ix2 n l) := fun n l => by
    rw [refGate_apply, refConv_tap, refConv_tap]
    rfl
  funext i
  exact (congrArg _ (eq_ix2 i)).trans ((e _ _).trans (congrArg _ (eq_ix2 i).symm))

end Ref

/-- The reference's run: its result is `result` of its arguments, which it leaves as they were. -/
theorem ref_run (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ fun r => ∀ c : Dev Cert.Reference7Ideal.nD,
      r.2.mem ((c.tc : Thread Cert.Reference7Ideal.nD Cert.Reference7Ideal.τ).loc Cert.Reference7Ideal.main_v25) = result (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3) :=
  (θ_run _ _ _).mono (fun r h c => ⟨(h c).1.trans (ref_result _ _ _ _), (h c).2⟩) (Cert.Reference7Ideal.Value.run m ρ)

/-- The reference runs and leaves its arguments; it has no counter. -/
theorem frame_ref : Cert.quiescent_Reference7Ideal := fun m ρ _ =>
  (θ_run _ _ _).mono (fun r h => ⟨fun c => (h c).2, sem_eq_zero_of_no_sems (by decide) r.2⟩) (ref_run m ρ)

/-- The kernel runs on machine words, leaves its arguments, and every counter is back at zero. -/
theorem frame_kernel : Cert.quiescent_Kernel7 := fun m ρ _ => Cert.Proof.Up.Kernel7.frame m ρ

/-- The same on extended reals. -/
theorem frame_ideal : Cert.quiescent_Kernel7Ideal := fun m ρ _ => Cert.Proof.Up.Kernel7Ideal.frame m ρ

/-- Kernel and reference, from the same arguments, end with the same result on extended reals. -/
theorem algebraic : Cert.algebraic_Kernel7Ideal_Reference7Ideal := by
  intro m ρ m' ρ' _ hag
  refine ⟨fun c => result (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), ?_, ?_⟩
  · refine (θ_run _ _ _).mono (fun r h c => ?_) (Cert.Proof.Up.Kernel7Ideal.run m ρ)
    exact ⟨((h.1 c).1 7).trans (final m c),
      ((h.1 c).1 0).trans (((Kernel7Ideal.dats m 0 c).arrAt_in 0 rfl _).trans ((Kernel7Ideal.dats_A m c 0).trans (Cert.Kernel7Ideal.Gen.V_main_arg0 m c))),
      ((h.1 c).1 2).trans (((Kernel7Ideal.dats m 0 c).arrAt_in 2 rfl _).trans ((Kernel7Ideal.dats_A m c 2).trans (Cert.Kernel7Ideal.Gen.V_main_arg1 m c))),
      ((h.1 c).2 Cert.Kernel7Ideal.main_arg2 (Pipeline.mem_restRefs_of Cert.Kernel7Ideal.main_arg2 (by decide) (by decide))).trans (Cert.Kernel7Ideal.Gen.V_main_arg2 m c),
      ((h.1 c).2 Cert.Kernel7Ideal.main_arg3 (Pipeline.mem_restRefs_of Cert.Kernel7Ideal.main_arg3 (by decide) (by decide))).trans (Cert.Kernel7Ideal.Gen.V_main_arg3 m c)⟩
  · refine (θ_run _ _ _).mono (fun r h c => ?_) (ref_run m' ρ')
    obtain ⟨e0, e1, e2, e3⟩ := hag c
    exact ⟨(h c).1.trans (by rw [e0, e1, e2, e3]), (h c).2⟩

end Cert.Proof.Up
end
-- ==== Proof.lean ====
/- Everything claimed of the layer's kernels, put together from the modules of each. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Nsa
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Proj
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Down
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Glu
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Merge
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.OutNorm
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Up
public import Idealize.ShloMosaic.Adequacy
public import Idealize.ShloMosaic.Init

@[expose] public section

/-- The whole claim: the facts of every program, the frames, and for each pair that kernel and reference compute the same. -/
theorem Cert.Proof.claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Proof.Nsa.frame_kernel, Cert.Proof.Nsa.frame_ideal, Cert.Proof.Proj.frame_kernel, Cert.Proof.Proj.frame_ideal, Cert.Proof.Proj.frame_ref, Cert.Proof.Down.frame_kernel, Cert.Proof.Down.frame_ideal, Cert.Proof.Down.frame_ref, Cert.Proof.Glu.frame_kernel, Cert.Proof.Glu.frame_ideal, Cert.Proof.Glu.frame_ref, Cert.Proof.Merge.frame_kernel, Cert.Proof.Merge.frame_ideal, Cert.Proof.Merge.frame_ref, Cert.Proof.OutNorm.frame_kernel, Cert.Proof.OutNorm.frame_ideal, Cert.Proof.OutNorm.frame_ref, Cert.Proof.Up.frame_kernel, Cert.Proof.Up.frame_ideal, Cert.Proof.Up.frame_ref,
    trivial, trivial, Cert.Proof.Proj.algebraic, trivial, Cert.Proof.Down.algebraic, trivial, Cert.Proof.Glu.algebraic, trivial, Cert.Proof.Merge.algebraic, trivial, Cert.Proof.OutNorm.algebraic, trivial, Cert.Proof.Up.algebraic⟩
